-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale2" .f32 0x3E0293EE#32 (((Real.sqrt 128)⁻¹ * (Real.log 2)⁻¹ : ℝ) : EReal)

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 2048, 16, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 2048, 16, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bitsLt_bf16_f32 : FTy.bits .bf16 < FTy.bits .f32
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x1024x16x128 : S_.BroadcastsInDim S8x1024x16x128 (![] : Fin 0 → Fin S8x1024x16x128.rank)
  reducesTo_S8x1024x16x128_S_d0_1_2_3 : S8x1024x16x128.ReducesTo [0, 1, 2, 3] S_

variable [Facts]

def fn {F : FTy → Type} [FloatOps F] (main_arg0 : FVec F S8x8x16x128 .bf16) (main_arg1 : FVec F S8x1024x16x128 .bf16) (main_arg2 : FVec F S8x1024x16x128 .bf16) : IVec S_ 1 :=
  let main_v0 : FVec F S8x8x16x128 .f32 := (extf .f32 · bitsLt_bf16_f32) main_arg0
  let main_v1 : FVec F S8x8x16x128 .f32 := Host.absf main_v0
  let main_v2 : FVec F S8x1024x16x128 .f32 := (extf .f32 · bitsLt_bf16_f32) main_arg1
  let main_v3 : FVec F S8x1024x16x128 .f32 := Host.absf main_v2
  let main_cst : FVec F S_ .f32 := constant S_ .f32 0x7F800000#32
  let main_v4 : FVec F S8x8x16x128 .f32 := broadcastInDim S8x8x16x128 ![] bcast_S_S8x8x16x128 main_cst
  let main_v5 : IVec S8x8x16x128 1 := cmpf .olt main_v1 main_v4
  let main_c : IVec S_ 1 := constantI S_ 1 1#1
  let main_v6 : IVec S_ 1 := (fun x v => Host.reduce IntOp.andi x v reducesTo_S8x8x16x128_S_d0_1_2_3 h_S_) main_v5 main_c
  let main_cst_0 : FVec F S_ .f32 := constant S_ .f32 0x7F800000#32
  let main_v7 : FVec F S8x1024x16x128 .f32 := broadcastInDim S8x1024x16x128 ![] bcast_S_S8x1024x16x128 main_cst_0
  let main_v8 : IVec S8x1024x16x128 1 := cmpf .olt main_v3 main_v7
  let main_c_1 : IVec S_ 1 := constantI S_ 1 1#1
  let main_v9 : IVec S_ 1 := (fun x v => Host.reduce IntOp.andi x v reducesTo_S8x1024x16x128_S_d0_1_2_3 h_S_) main_v8 main_c_1
  let main_v10 : IVec S_ 1 := andi main_v6 main_v9
  main_v10
-- ==== Pre_finite_qk_ReferenceIdeal.lean ====
abbrev S8x8x16x128 : Shape := ⟨4, ![8, 8, 16, 128]⟩
abbrev S8x2048x16x128 : Shape := ⟨4, ![8, 2048, 16, 128]⟩
abbrev S_ : Shape := ⟨0, ![]⟩

class Facts : Prop where
  bitsLt_bf16_f32 : FTy.bits .bf16 < FTy.bits .f32
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x2048x16x128 : S_.BroadcastsInDim S8x2048x16x128 (![] : Fin 0 → Fin S8x2048x16x128.rank)
  reducesTo_S8x2048x16x128_S_d0_1_2_3 : S8x2048x16x128.ReducesTo [0, 1, 2, 3] S_

variable [Facts]

def fn {F : FTy → Type} [FloatOps F] (main_arg0 : FVec F S8x8x16x128 .bf16) (main_arg1 : FVec F S8x2048x16x128 .bf16) (main_arg2 : FVec F S8x2048x16x128 .bf16) : IVec S_ 1 :=
  let main_v0 : FVec F S8x8x16x128 .f32 := (extf .f32 · bitsLt_bf16_f32) main_arg0
  let main_v1 : FVec F S8x8x16x128 .f32 := Host.absf main_v0
  let main_v2 : FVec F S8x2048x16x128 .f32 := (extf .f32 · bitsLt_bf16_f32) main_arg1
  let main_v3 : FVec F S8x2048x16x128 .f32 := Host.absf main_v2
  let main_cst : FVec F S_ .f32 := constant S_ .f32 0x7F800000#32
  let main_v4 : FVec F S8x8x16x128 .f32 := broadcastInDim S8x8x16x128 ![] bcast_S_S8x8x16x128 main_cst
  let main_v5 : IVec S8x8x16x128 1 := cmpf .olt main_v1 main_v4
  let main_c : IVec S_ 1 := constantI S_ 1 1#1
  let main_v6 : IVec S_ 1 := (fun x v => Host.reduce IntOp.andi x v reducesTo_S8x8x16x128_S_d0_1_2_3 h_S_) main_v5 main_c
  let main_cst_0 : FVec F S_ .f32 := constant S_ .f32 0x7F800000#32
  let main_v7 : FVec F S8x2048x16x128 .f32 := broadcastInDim S8x2048x16x128 ![] bcast_S_S8x2048x16x128 main_cst_0
  let main_v8 : IVec S8x2048x16x128 1 := cmpf .olt main_v3 main_v7
  let main_c_1 : IVec S_ 1 := constantI S_ 1 1#1
  let main_v9 : IVec S_ 1 := (fun x v => Host.reduce IntOp.andi x v reducesTo_S8x2048x16x128_S_d0_1_2_3 h_S_) main_v8 main_c_1
  let main_v10 : IVec S_ 1 := andi main_v6 main_v9
  main_v10
-- ==== Kernel.lean ====
abbrev S8x8x16x128 : Shape := ⟨4, ![8, 8, 16, 128]⟩
abbrev S8x1024x16x128 : Shape := ⟨4, ![8, 1024, 16, 128]⟩
abbrev S1x8x8x128 : Shape := ⟨4, ![1, 8, 8, 128]⟩
abbrev S1x1024x8x128 : Shape := ⟨4, ![1, 1024, 8, 128]⟩
abbrev S1x8x16x128 : Shape := ⟨4, ![1, 8, 16, 128]⟩
abbrev S8x2x16x8 : Shape := ⟨4, ![8, 2, 16, 8]⟩
abbrev S2x8 : Shape := ⟨2, ![2, 8]⟩
abbrev S_ : Shape := ⟨0, ![]⟩
abbrev S1024x8x128 : Shape := ⟨3, ![1024, 8, 128]⟩
abbrev S8x1024x128 : Shape := ⟨3, ![8, 1024, 128]⟩
abbrev S8x8x128 : Shape := ⟨3, ![8, 8, 128]⟩
abbrev S8x8x1024 : Shape := ⟨3, ![8, 8, 1024]⟩
abbrev S8x8 : Shape := ⟨2, ![8, 8]⟩
abbrev S8x8x1 : Shape := ⟨3, ![8, 8, 1]⟩
abbrev S1x1x8x8 : Shape := ⟨4, ![1, 1, 8, 8]⟩
abbrev S1x1 : Shape := ⟨2, ![1, 1]⟩
abbrev S1x2x16x8 : Shape := ⟨4, ![1, 2, 16, 8]⟩
abbrev S2x16x8 : Shape := ⟨3, ![2, 16, 8]⟩
abbrev S8x16x128 : Shape := ⟨3, ![8, 16, 128]⟩
abbrev S1x1x16x8 : Shape := ⟨4, ![1, 1, 16, 8]⟩
abbrev S16x8 : Shape := ⟨2, ![16, 8]⟩
abbrev S8x16 : Shape := ⟨2, ![8, 16]⟩
abbrev S8x16x1 : Shape := ⟨3, ![8, 16, 1]⟩

abbrev nBuf : Space → Nat
  | .hbm => 4
  | .vmem => 12
  | .smem => 0
  | _ => 0

abbrev bufTy : (tb : Table) → Fin (tcTables nBuf tb) → BufTy
  | .hbm, ⟨0, _⟩ => ⟨S8x8x16x128, .bf16⟩
  | .hbm, ⟨1, _⟩ => ⟨S8x1024x16x128, .bf16⟩
  | .hbm, ⟨2, _⟩ => ⟨S8x1024x16x128, .bf16⟩
  | .hbm, ⟨3, _⟩ => ⟨S8x8x16x128, .f32⟩
  | .local _ .vmem, ⟨0, _⟩ => ⟨S1x8x8x128, .bf16⟩
  | .local _ .vmem, ⟨1, _⟩ => ⟨S1x8x8x128, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1x1024x8x128, .bf16⟩
  | .local _ .vmem, ⟨5, _⟩ => ⟨S1x1024x8x128, .bf16⟩
  | .local _ .vmem, ⟨6, _⟩ => ⟨S1x8x16x128, .f32⟩
  | .local _ .vmem, ⟨7, _⟩ => ⟨S1x8x16x128, .f32⟩
  | .local _ .vmem, ⟨8, _⟩ => ⟨S8x8x16x128, .bf16⟩
  | .local _ .vmem, ⟨9, _⟩ => ⟨S8x2x16x8, .f32⟩
  | .local _ .vmem, ⟨10, _⟩ => ⟨S8x8x16x128, .bf16⟩
  | .local _ .vmem, ⟨11, _⟩ => ⟨S8x2x16x8, .f32⟩
  | _, _ => ⟨S8x8x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev barrier0 : Sem sig := 0

abbrev nD : Nat := 16
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let arg1 : BitVec 32 := BitVec.ofNat 32 (i 1).val
  let c0_i32_3 : BitVec 32 := 0#32
  let v12 : BitVec 1 := Scalar.cmpi .eq arg1 c0_i32_3
  let v13 : BitVec 1 := Scalar.andi v11 v12
  let v14 : BitVec 32 := Scalar.extui v13
  let c0_i32_4 : BitVec 32 := 0#32
  let v15 : BitVec 1 := Scalar.cmpi .ne v14 c0_i32_4
  v15

def k0_dev1 (d0 : Dev nD) : Nat :=
  let c0_i32_31 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_30 : BitVec 32 := 8#32
  let v54 : BitVec 32 := Scalar.muli v9 c8_i32_30
  let v55 : BitVec 32 := Scalar.addi c0_i32_31 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v56 : BitVec 32 := Scalar.muli v5 c4_i32_32
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v58 : BitVec 32 := Scalar.muli v8 c1_i32_33
  let v59 : BitVec 32 := Scalar.addi v57 v58
  v59.toNat
def k0_cond2 (i : grid0.Coords) : BitVec 1 :=
  let arg1 : BitVec 32 := BitVec.ofNat 32 (i 1).val
  let c0_i32_20 : BitVec 32 := 0#32
  let v38 : BitVec 1 := Scalar.cmpi .eq arg1 c0_i32_20
  let v39 : BitVec 32 := Scalar.extui v38
  let c0_i32_21 : BitVec 32 := 0#32
  let v40 : BitVec 1 := Scalar.cmpi .ne v39 c0_i32_21
  v40

def k0_off1 (i : grid0.Coords) : Fin 4 → Nat :=
  let arg0 : BitVec 32 := BitVec.ofNat 32 (i 0).val
  let v54 : Index := Scalar.indexCast arg0
  let c0_29 : Index := 0#32
  let c0_30 : Index := 0#32
  let c0_31 : Index := 0#32
  ![v54.toNat, 0, 0, 0]
def k0_off2 (i : grid0.Coords) : Fin 4 → Nat :=
  let arg0 : BitVec 32 := BitVec.ofNat 32 (i 0).val
  let v58 : Index := Scalar.indexCast arg0
  let c0_32 : Index := 0#32
  let c0_33 : Index := 0#32
  let c0_34 : Index := 0#32
  ![v58.toNat, 0, 0, 0]
def k0_off3 (i : grid0.Coords) : Fin 4 → Nat :=
  let arg0 : BitVec 32 := BitVec.ofNat 32 (i 0).val
  let v62 : Index := Scalar.indexCast arg0
  let c1 : Index := 1#32
  let c0_35 : Index := 0#32
  let c0_36 : Index := 0#32
  ![v62.toNat, 1, 0, 0]
def k0_cond3 (i : grid0.Coords) : BitVec 1 :=
  let arg1 : BitVec 32 := BitVec.ofNat 32 (i 1).val
  let c0_i32_22 : BitVec 32 := 0#32
  let v41 : BitVec 1 := Scalar.cmpi .eq arg1 c0_i32_22
  let arg0 : BitVec 32 := BitVec.ofNat 32 (i 0).val
  let c0_i32_23 : BitVec 32 := 0#32
  let v42 : BitVec 1 := Scalar.cmpi .sgt arg0 c0_i32_23
  let v43 : BitVec 1 := Scalar.andi v41 v42
  let v44 : BitVec 32 := Scalar.extui v43
  let c0_i32_24 : BitVec 32 := 0#32
  let v45 : BitVec 1 := Scalar.cmpi .ne v44 c0_i32_24
  v45

def k0_off4 (i : grid0.Coords) : Fin 2 → Nat :=
  let c1_i32_30 : BitVec 32 := 1#32
  let arg0 : BitVec 32 := BitVec.ofNat 32 (i 0).val
  let c1_i32_29 : BitVec 32 := 1#32
  let v54 : BitVec 32 := Scalar.subi arg0 c1_i32_29
  ![1, v54.toNat]
def k0_off5 (i : grid0.Coords) : Fin 4 → Nat :=
  let arg0 : BitVec 32 := BitVec.ofNat 32 (i 0).val
  let c1_i32_29 : BitVec 32 := 1#32
  let v54 : BitVec 32 := Scalar.subi arg0 c1_i32_29
  let c0_i32_33 : BitVec 32 := 0#32
  let c0_i32_34 : BitVec 32 := 0#32
  let c0_i32_35 : BitVec 32 := 0#32
  ![v54.toNat, 0, 0, 0]
def k0_off6 (i : grid0.Coords) : Fin 2 → Nat :=
  let c0_i32_51 : BitVec 32 := 0#32
  let arg0 : BitVec 32 := BitVec.ofNat 32 (i 0).val
  let c1_i32_29 : BitVec 32 := 1#32
  let v54 : BitVec 32 := Scalar.subi arg0 c1_i32_29
  ![0, v54.toNat]
def k0_off7 (i : grid0.Coords) : Fin 4 → Nat :=
  let arg0 : BitVec 32 := BitVec.ofNat 32 (i 0).val
  let c1_i32_29 : BitVec 32 := 1#32
  let v54 : BitVec 32 := Scalar.subi arg0 c1_i32_29
  let c0_i32_54 : BitVec 32 := 0#32
  let c0_i32_55 : BitVec 32 := 0#32
  let c0_i32_56 : BitVec 32 := 0#32
  ![v54.toNat, 0, 0, 0]
def k0_off8 (i : grid0.Coords) : Fin 4 → Nat :=
  let arg0 : BitVec 32 := BitVec.ofNat 32 (i 0).val
  let c1_i32_29 : BitVec 32 := 1#32
  let v54 : BitVec 32 := Scalar.subi arg0 c1_i32_29
  let v91 : Index := Scalar.indexCast v54
  let c0_72 : Index := 0#32
  let c0_73 : Index := 0#32
  let c0_74 : Index := 0#32
  ![v91.toNat, 0, 0, 0]
def k0_off9 (i : grid0.Coords) : Fin 4 → Nat :=
  let arg0 : BitVec 32 := BitVec.ofNat 32 (i 0).val
  let c1_i32_29 : BitVec 32 := 1#32
  let v54 : BitVec 32 := Scalar.subi arg0 c1_i32_29
  let v102 : Index := Scalar.indexCast v54
  let c1 : Index := 1#32
  let c0_78 : Index := 0#32
  let c0_79 : Index := 0#32
  ![v102.toNat, 1, 0, 0]
def k0_off10 (i : grid0.Coords) : Fin 4 → Nat :=
  let arg0 : BitVec 32 := BitVec.ofNat 32 (i 0).val
  let c1_i32_29 : BitVec 32 := 1#32
  let v54 : BitVec 32 := Scalar.subi arg0 c1_i32_29
  let v117 : Index := Scalar.indexCast v54
  let c0_83 : Index := 0#32
  let c0_84 : Index := 0#32
  let c0_85 : Index := 0#32
  ![v117.toNat, 0, 0, 0]
def k0_cond4 (i : grid0.Coords) : BitVec 1 :=
  let arg1 : BitVec 32 := BitVec.ofNat 32 (i 1).val
  let c1_i32_25 : BitVec 32 := 1#32
  let v46 : BitVec 1 := Scalar.cmpi .eq arg1 c1_i32_25
  let v47 : BitVec 32 := Scalar.extui v46
  let c0_i32_26 : BitVec 32 := 0#32
  let v48 : BitVec 1 := Scalar.cmpi .ne v47 c0_i32_26
  v48

def k0_off11 (i : grid0.Coords) : Fin 4 → Nat :=
  let arg0 : BitVec 32 := BitVec.ofNat 32 (i 0).val
  let v54 : Index := Scalar.indexCast arg0
  let c0_29 : Index := 0#32
  let c8 : Index := 8#32
  let c0_30 : Index := 0#32
  ![v54.toNat, 0, 8, 0]
def k0_off12 (i : grid0.Coords) : Fin 4 → Nat :=
  let arg0 : BitVec 32 := BitVec.ofNat 32 (i 0).val
  let v58 : Index := Scalar.indexCast arg0
  let c0_31 : Index := 0#32
  let c8_32 : Index := 8#32
  let c0_33 : Index := 0#32
  ![v58.toNat, 0, 8, 0]
def k0_off13 (i : grid0.Coords) : Fin 4 → Nat :=
  let arg0 : BitVec 32 := BitVec.ofNat 32 (i 0).val
  let v62 : Index := Scalar.indexCast arg0
  let c1 : Index := 1#32
  let c8_34 : Index := 8#32
  let c0_35 : Index := 0#32
  ![v62.toNat, 1, 8, 0]
def k0_off14 (i : grid0.Coords) : Fin 2 → Nat :=
  let c0_i32_37 : BitVec 32 := 0#32
  let arg0 : BitVec 32 := BitVec.ofNat 32 (i 0).val
  ![0, arg0.toNat]
def k0_off15 (i : grid0.Coords) : Fin 4 → Nat :=
  let arg0 : BitVec 32 := BitVec.ofNat 32 (i 0).val
  let c0_i32_42 : BitVec 32 := 0#32
  let c0_i32_43 : BitVec 32 := 0#32
  let c0_i32_44 : BitVec 32 := 0#32
  ![arg0.toNat, 0, 0, 0]
def k0_dev2 (d0 : Dev nD) : Nat :=
  let c0_i32_39 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_38 : BitVec 32 := 8#32
  let v66 : BitVec 32 := Scalar.muli v9 c8_i32_38
  let v67 : BitVec 32 := Scalar.addi c0_i32_39 v66
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v68 : BitVec 32 := Scalar.muli v5 c4_i32_40
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v70 : BitVec 32 := Scalar.muli v8 c1_i32_41
  let v71 : BitVec 32 := Scalar.addi v69 v70
  v71.toNat
def k0_off16 (i : grid0.Coords) : Fin 2 → Nat :=
  let c1_i32_49 : BitVec 32 := 1#32
  let arg0 : BitVec 32 := BitVec.ofNat 32 (i 0).val
  ![1, arg0.toNat]
def k0_off17 (i : grid0.Coords) : Fin 4 → Nat :=
  let arg0 : BitVec 32 := BitVec.ofNat 32 (i 0).val
  let c0_i32_54 : BitVec 32 := 0#32
  let c0_i32_55 : BitVec 32 := 0#32
  let c0_i32_56 : BitVec 32 := 0#32
  ![arg0.toNat, 0, 0, 0]
def k0_dev3 (d0 : Dev nD) : Nat :=
  let c0_i32_51 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_50 : BitVec 32 := 8#32
  let v80 : BitVec 32 := Scalar.muli v9 c8_i32_50
  let v81 : BitVec 32 := Scalar.addi c0_i32_51 v80
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_52 : BitVec 32 := 4#32
  let v82 : BitVec 32 := Scalar.muli v5 c4_i32_52
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v84 : BitVec 32 := Scalar.muli v8 c1_i32_53
  let v85 : BitVec 32 := Scalar.addi v83 v84
  v85.toNat
def k0_cond5 (i : grid0.Coords) : BitVec 1 :=
  let arg1 : BitVec 32 := BitVec.ofNat 32 (i 1).val
  let c1_i32_27 : BitVec 32 := 1#32
  let v49 : BitVec 1 := Scalar.cmpi .eq arg1 c1_i32_27
  let arg0 : BitVec 32 := BitVec.ofNat 32 (i 0).val
  let c7_i32 : BitVec 32 := 7#32
  let v50 : BitVec 1 := Scalar.cmpi .eq arg0 c7_i32
  let v51 : BitVec 1 := Scalar.andi v49 v50
  let v52 : BitVec 32 := Scalar.extui v51
  let c0_i32_28 : BitVec 32 := 0#32
  let v53 : BitVec 1 := Scalar.cmpi .ne v52 c0_i32_28
  v53

def k0_off18 (i : grid0.Coords) : Fin 2 → Nat :=
  let c1_i32_29 : BitVec 32 := 1#32
  let arg0 : BitVec 32 := BitVec.ofNat 32 (i 0).val
  ![1, arg0.toNat]
def k0_off19 (i : grid0.Coords) : Fin 4 → Nat :=
  let arg0 : BitVec 32 := BitVec.ofNat 32 (i 0).val
  let c0_i32_32 : BitVec 32 := 0#32
  let c0_i32_33 : BitVec 32 := 0#32
  let c0_i32_34 : BitVec 32 := 0#32
  ![arg0.toNat, 0, 0, 0]
def k0_off20 (i : grid0.Coords) : Fin 2 → Nat :=
  let c0_i32_50 : BitVec 32 := 0#32
  let arg0 : BitVec 32 := BitVec.ofNat 32 (i 0).val
  ![0, arg0.toNat]
def k0_off21 (i : grid0.Coords) : Fin 4 → Nat :=
  let arg0 : BitVec 32 := BitVec.ofNat 32 (i 0).val
  let c0_i32_53 : BitVec 32 := 0#32
  let c0_i32_54 : BitVec 32 := 0#32
  let c0_i32_55 : BitVec 32 := 0#32
  ![arg0.toNat, 0, 0, 0]
def k0_off22 (i : grid0.Coords) : Fin 4 → Nat :=
  let arg0 : BitVec 32 := BitVec.ofNat 32 (i 0).val
  let v90 : Index := Scalar.indexCast arg0
  let c0_71 : Index := 0#32
  let c0_72 : Index := 0#32
  let c0_73 : Index := 0#32
  ![v90.toNat, 0, 0, 0]
def k0_off23 (i : grid0.Coords) : Fin 4 → Nat :=
  let arg0 : BitVec 32 := BitVec.ofNat 32 (i 0).val
  let v101 : Index := Scalar.indexCast arg0
  let c1 : Index := 1#32
  let c0_77 : Index := 0#32
  let c0_78 : Index := 0#32
  ![v101.toNat, 1, 0, 0]
def k0_off24 (i : grid0.Coords) : Fin 4 → Nat :=
  let arg0 : BitVec 32 := BitVec.ofNat 32 (i 0).val
  let v116 : Index := Scalar.indexCast arg0
  let c0_82 : Index := 0#32
  let c0_83 : Index := 0#32
  let c0_84 : Index := 0#32
  ![v116.toNat, 0, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let v1 : BitVec 32 := Scalar.addi v0 arg1
  let c8_i32 : BitVec 32 := 8#32
  let c0_i32 : BitVec 32 := 0#32
  let v2 : BitVec 1 := Scalar.cmpi .eq c8_i32 c0_i32
  let c1_i32_0 : BitVec 32 := 1#32
  let v3 : BitVec 32 := Scalar.select v2 c1_i32_0 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  let c0_i32_7 : BitVec 32 := 0#32
  ![v11.toNat, c0_i32_4.toNat, c0_i32_5.toNat, c0_i32_6.toNat]

abbrev stage0_0 : Fin 2 → Memref sig .tc .vmem S1x8x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale2" => some (((Real.sqrt 128)⁻¹ * (Real.log 2)⁻¹ : ℝ) : EReal)
  | _ => none
-- ==== ReferenceIdeal.lean ====
abbrev S8x8x16x128 : Shape := ⟨4, ![8, 8, 16, 128]⟩
abbrev S8x2048x16x128 : Shape := ⟨4, ![8, 2048, 16, 128]⟩
abbrev S_ : Shape := ⟨0, ![]⟩
abbrev S8x16x8x2048 : Shape := ⟨4, ![8, 16, 8, 2048]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 26
  | .vmem => 0
  | .smem => 0
  | _ => 0

abbrev bufTy : (tb : Table) → Fin (tcTables nBuf tb) → BufTy
  | .hbm, ⟨0, _⟩ => ⟨S8x8x16x128, .bf16⟩
  | .hbm, ⟨1, _⟩ => ⟨S8x2048x16x128, .bf16⟩
  | .hbm, ⟨2, _⟩ => ⟨S8x2048x16x128, .bf16⟩
  | .hbm, ⟨3, _⟩ => ⟨S8x8x16x128, .f32⟩
  | .hbm, ⟨4, _⟩ => ⟨S8x2048x16x128, .f32⟩
  | .hbm, ⟨5, _⟩ => ⟨S8x2048x16x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x16x8x2048, .f32⟩
  | .hbm, ⟨11, _⟩ => ⟨S8x16x8x2048, .f32⟩
  | .hbm, ⟨12, _⟩ => ⟨S8x16x8x2048, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S8x16x8x2048, .f32⟩
  | .hbm, ⟨17, _⟩ => ⟨S8x16x8x2048, .f32⟩
  | .hbm, ⟨18, _⟩ => ⟨S8x16x8x2048, .f32⟩
  | .hbm, ⟨19, _⟩ => ⟨S_, .f32⟩
  | .hbm, ⟨20, _⟩ => ⟨S8x16x8, .f32⟩
  | .hbm, ⟨21, _⟩ => ⟨S8x16x8x1, .f32⟩
  | .hbm, ⟨22, _⟩ => ⟨S8x16x8x2048, .f32⟩
  | .hbm, ⟨23, _⟩ => ⟨S8x16x8x2048, .f32⟩
  | .hbm, ⟨24, _⟩ => ⟨S8x16x128x8, .f32⟩
  | .hbm, ⟨25, _⟩ => ⟨S8x8x16x128, .f32⟩
  | _, _ => ⟨S8x8x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Transfer.lean ====
/-
# 01_k — `Transfer`: the compiled kernel's text is the idealized kernel's

The two programs differ in one place: where the compiled kernel spells the score's scale as a float literal, the
idealized one names it. Reading every name as its own literal makes the two the same program, so a run of the idealized
text over machine floats is a run of the compiled kernel.
-/
module

public import proofs.«01_k».proof.Defs
public import proofs.«01_k».proof.Proof.Gen.Kernel
public import proofs.«01_k».proof.Proof.Gen.KernelIdeal

@[expose] public section

noncomputable section

namespace Cert.Kernel.Transfer

open Idealize.ShloMosaic Idealize.SL.Sem

/-- Machine floats with every named constant read as the literal it names. -/
abbrev asBits : Named Bits := ⟨fun _ _ {φ} b => Scalar.ofBits φ b⟩

/-- The idealized text, over machine floats read so, runs, keeps its arguments and ends with every counter at zero. -/
def RunsOverBits [hK : Cert.KernelIdeal.Facts] : Prop :=
  ∀ (m : (ℓ : Loc Cert.KernelIdeal.nD Cert.KernelIdeal.τ Cert.KernelIdeal.sig) → Buf (Elt Bits) ℓ) (g : Dev Cert.KernelIdeal.nD → PrngReg),
    θ_run (@Cert.KernelIdeal.defs Bits _ asBits _) (onTc (τ := Cert.KernelIdeal.τ) (@Cert.KernelIdeal.main Bits _)) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0)

set_option maxRecDepth 100000 in
set_option maxHeartbeats 4000000 in
/-- The two programs' kernel bodies are one, -/
theorem bodies_eq [Cert.KernelIdeal.Facts] [Cert.Kernel.Facts] : @Cert.Kernel.defs₀ Bits _ _ = @Cert.KernelIdeal.defs₀ Bits _ asBits _ := by
  unfold Cert.Kernel.defs₀ Cert.KernelIdeal.defs₀
  refine congrArg Defs.onTc (funext fun l => funext fun a => ?_)
  match l, a with
  | ⟨0, _⟩, (t, s) => rfl
  | ⟨n + 1, h⟩, _ => exact absurd h (Nat.not_lt.2 (Nat.le_add_left _ _))

set_option maxRecDepth 100000 in
set_option maxHeartbeats 4000000 in
/-- and so are their pipelines. -/
theorem defs_eq [Cert.KernelIdeal.Facts] [Cert.Kernel.Facts] : @Cert.Kernel.defs Bits _ _ = @Cert.KernelIdeal.defs Bits _ asBits _ :=
  congrArg (Pipeline.defs Cert.Kernel.pcfgs) bodies_eq

set_option maxRecDepth 100000 in
set_option maxHeartbeats 4000000 in
/-- A run of the idealized text over machine floats is the compiled kernel's. -/
theorem kernel_runs [Cert.KernelIdeal.Facts] [Cert.Kernel.Facts] (h : RunsOverBits) : Cert.quiescent_Kernel := by
  intro m g _
  have hr := h m g
  rw [← defs_eq] at hr
  exact hr

end Cert.Kernel.Transfer

end
-- ==== Proof.Common.lean ====
/-
# 01_k — `Common`: the devices, buffers, semaphores and contents the protocol is about

Device `c` works with the one partner `peer c`, whose index differs by eight: the two hold the two halves of the
keys and values. Each batch `b` has one slot in each of four scratch buffers: the device's own accumulator and
row statistics, and the landing buffers for its partner's.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The partner -/

set_option backward.proofsInPublic true in
/-- The device holding the other half of the keys and values. -/
def peer (c : Dev nD) : Dev nD := ⟨(c.val + 8) % 16, Nat.mod_lt _ (by decide)⟩

theorem peer_peer (c : Dev nD) : peer (peer c) = c := by revert c; decide

/-- The partner map as a permutation of the devices. -/
def pairing : Dev nD ≃ Dev nD := ⟨peer, peer, peer_peer, peer_peer⟩

theorem dev_formula (c : Dev nD) : (4 * ((c.val / 4) % 2) + (c.val % 4) + 8) - 8 * (c.val / 8) = (peer c).val := by revert c; decide

/-- The barrier signal names the partner. -/
theorem dev1_eq (c : Dev nD) (h) : (⟨k0_dev1 c, h⟩ : Dev nD) = peer c := Fin.ext ((k0_dev1_eq c).trans (dev_formula c))
/-- So does the first copy, -/
theorem dev2_eq (c : Dev nD) (h) : (⟨k0_dev2 c, h⟩ : Dev nD) = peer c := Fin.ext ((k0_dev2_eq c).trans (dev_formula c))
/-- and the second. -/
theorem dev3_eq (c : Dev nD) (h) : (⟨k0_dev3 c, h⟩ : Dev nD) = peer c := Fin.ext ((k0_dev3_eq c).trans (dev_formula c))

/-! ## The grid -/

theorem cfg0_N : cfg0.N = 16 := N_0

/-- The grid point of batch `b` and half `j`. -/
def pt (b : Fin 8) (j : Fin 2) : Fin cfg0.N := ⟨2 * b.val + j.val, by rw [cfg0_N]; omega⟩

theorem coords_pt (b : Fin 8) (j : Fin 2) : (grid0.coords (pt b j) 0).val = b.val ∧ (grid0.coords (pt b j) 1).val = j.val := by
  revert b j; decide

/-- Every grid point is a batch's first or second half. -/
theorem exists_pt (t : Fin cfg0.N) : ∃ b j, t = pt b j := by
  have h : t.val < 16 := t.isLt.trans_eq cfg0_N
  refine ⟨⟨t.val / 2, by omega⟩, ⟨t.val % 2, by omega⟩, Fin.ext ?_⟩
  show t.val = 2 * (t.val / 2) + t.val % 2
  omega

/-- The conditions of the body at a grid point. -/
theorem cond1_pt (b : Fin 8) (j : Fin 2) : k0_cond1 (grid0.coords (pt b j)) = 1#1 ↔ b = 0 ∧ j = 0 := by revert b j; decide +kernel
theorem cond2_pt (b : Fin 8) (j : Fin 2) : k0_cond2 (grid0.coords (pt b j)) = 1#1 ↔ j = 0 := by revert b j; decide +kernel
theorem cond3_pt (b : Fin 8) (j : Fin 2) : k0_cond3 (grid0.coords (pt b j)) = 1#1 ↔ j = 0 ∧ 0 < b.val := by revert b j; decide +kernel
theorem cond4_pt (b : Fin 8) (j : Fin 2) : k0_cond4 (grid0.coords (pt b j)) = 1#1 ↔ j = 1 := by revert b j; decide +kernel
theorem cond5_pt (b : Fin 8) (j : Fin 2) : k0_cond5 (grid0.coords (pt b j)) = 1#1 ↔ j = 1 ∧ b = 7 := by revert b j; decide +kernel

/-- The offsets of the combination at a batch's first half name the batch before. -/
theorem off4_eq : ∀ i : grid0.Coords, k0_cond3 i = 1#1 → k0_off4 i = ![1, (i 0).val - 1] := by decide +kernel
theorem off5_eq : ∀ i : grid0.Coords, k0_cond3 i = 1#1 → k0_off5 i = ![(i 0).val - 1, 0, 0, 0] := by decide +kernel
theorem off6_eq : ∀ i : grid0.Coords, k0_cond3 i = 1#1 → k0_off6 i = ![0, (i 0).val - 1] := by decide +kernel
theorem off7_eq : ∀ i : grid0.Coords, k0_cond3 i = 1#1 → k0_off7 i = ![(i 0).val - 1, 0, 0, 0] := by decide +kernel
theorem off8_eq : ∀ i : grid0.Coords, k0_cond3 i = 1#1 → k0_off8 i = ![(i 0).val - 1, 0, 0, 0] := by decide +kernel
theorem off9_eq : ∀ i : grid0.Coords, k0_cond3 i = 1#1 → k0_off9 i = ![(i 0).val - 1, 1, 0, 0] := by decide +kernel
theorem off10_eq : ∀ i : grid0.Coords, k0_cond3 i = 1#1 → k0_off10 i = ![(i 0).val - 1, 0, 0, 0] := by decide +kernel

/-! ## The semaphores -/

/-- The transfer semaphore of kind `k` (0 the accumulator's, 1 the statistics') and batch `b`: the sending side's
    (`false`) or the receiving side's (`true`). -/
def xsem (r : Bool) (k : Fin 2) (b : Fin 8) : DmaSem sig := ⟨(if r then 24 else 8) + 8 * k.val + b.val, by
  show _ < 40
  split <;> omega⟩

theorem send_sem_eq (k : Fin 2) (b : Fin 8) {off : Fin 2 → ℕ} (h : off = ![k.val, b.val]) (inb) (hs) :
    ((cc0_scratch4.slice (Rect.unit (s := S2x8) off S1x1.size inb)).squeeze S_ hs).sem = xsem false k b := by
  subst h; revert inb; revert k b; decide

theorem recv_sem_eq (k : Fin 2) (b : Fin 8) {off : Fin 2 → ℕ} (h : off = ![k.val, b.val]) (inb) (hs) :
    ((cc0_scratch5.slice (Rect.unit (s := S2x8) off S1x1.size inb)).squeeze S_ hs).sem = xsem true k b := by
  subst h; revert inb; revert k b; decide

/-- The runtime's barrier semaphore. -/
abbrev barS : Sem sig := (SemArray.scalar (sig.barrier 0 rfl) : Sems sig S_).sem

/-- The names of a device's protocol cells: the barrier, or a transfer semaphore. -/
abbrev CK : Type := Option (Bool × Fin 2 × Fin 8)

/-- A cell's semaphore, -/
def csem : CK → SemLoc sig
  | none => .reg barS
  | some (r, k, b) => .dma (xsem r k b)

/-- and back. -/
def decode : SemLoc sig → Option CK
  | .reg s => if s = barS then some none else none
  | .dma q => if q.val < 8 then none else
      some (some (decide (24 ≤ q.val), ⟨(q.val - 8) / 8 % 2, Nat.mod_lt _ (by decide)⟩, ⟨q.val % 8, Nat.mod_lt _ (by decide)⟩))

theorem decode_csem (x : CK) : decode (csem x) = some x := by revert x; decide

theorem csem_injective : Function.Injective csem := fun x y h => Option.some.inj (by rw [← decode_csem x, h, decode_csem])

/-! ## The slots -/

/-- The elements of batch `b` in an accumulator buffer, -/
def slotA (b : Fin 8) : Finset S8x8x16x128.Idx := Finset.univ.filter fun x => (x 0).val = b.val
/-- and in a statistics buffer. -/
def slotM (b : Fin 8) : Finset S8x2x16x8.Idx := Finset.univ.filter fun x => (x 0).val = b.val

theorem mem_slotA {b : Fin 8} {x : S8x8x16x128.Idx} : x ∈ slotA b ↔ (x 0).val = b.val := by
  unfold slotA; rw [Finset.mem_filter]; exact and_iff_right (Finset.mem_univ _)
theorem mem_slotM {b : Fin 8} {x : S8x2x16x8.Idx} : x ∈ slotM b ↔ (x 0).val = b.val := by
  unfold slotM; rw [Finset.mem_filter]; exact and_iff_right (Finset.mem_univ _)

theorem rectA_set (b : Fin 8) {off : Fin 4 → ℕ} (h : off = ![b.val, 0, 0, 0]) (inb) :
    (Rect.unit (s := S8x8x16x128) off S1x8x16x128.size inb).set = slotA b := by
  subst h
  ext x
  rw [Rect.mem_set_unit, mem_slotA]
  constructor
  · intro h
    have h0 : b.val ≤ (x 0).val ∧ (x 0).val < b.val + 1 := h 0
    omega
  · intro h a
    fin_cases a
    · show b.val ≤ (x 0).val ∧ (x 0).val < b.val + 1
      omega
    · exact ⟨Nat.zero_le _, (x 1).isLt.trans_eq (Nat.zero_add _).symm⟩
    · exact ⟨Nat.zero_le _, (x 2).isLt.trans_eq (Nat.zero_add _).symm⟩
    · exact ⟨Nat.zero_le _, (x 3).isLt.trans_eq (Nat.zero_add _).symm⟩

theorem rectM_set (b : Fin 8) {off : Fin 4 → ℕ} (h : off = ![b.val, 0, 0, 0]) (inb) :
    (Rect.unit (s := S8x2x16x8) off S1x2x16x8.size inb).set = slotM b := by
  subst h
  ext x
  rw [Rect.mem_set_unit, mem_slotM]
  constructor
  · intro h
    have h0 : b.val ≤ (x 0).val ∧ (x 0).val < b.val + 1 := h 0
    omega
  · intro h a
    fin_cases a
    · show b.val ≤ (x 0).val ∧ (x 0).val < b.val + 1
      omega
    · exact ⟨Nat.zero_le _, (x 1).isLt.trans_eq (Nat.zero_add _).symm⟩
    · exact ⟨Nat.zero_le _, (x 2).isLt.trans_eq (Nat.zero_add _).symm⟩
    · exact ⟨Nat.zero_le _, (x 3).isLt.trans_eq (Nat.zero_add _).symm⟩

/-- A rectangle at batch `b`'s leading offset lies in the batch's slot. -/
theorem rectA_subset (b : Fin 8) {off size : Fin 4 → ℕ} (h : off 0 = b.val) (hs : size 0 = 1) (inb) :
    (Rect.unit (s := S8x8x16x128) off size inb).set ⊆ slotA b := fun x hx => by
  have h0 : off 0 ≤ (x 0).val ∧ (x 0).val < off 0 + size 0 := Rect.mem_set_unit.mp hx 0
  exact mem_slotA.mpr (by omega)
theorem rectM_subset (b : Fin 8) {off size : Fin 4 → ℕ} (h : off 0 = b.val) (hs : size 0 = 1) (inb) :
    (Rect.unit (s := S8x2x16x8) off size inb).set ⊆ slotM b := fun x hx => by
  have h0 : off 0 ≤ (x 0).val ∧ (x 0).val < off 0 + size 0 := Rect.mem_set_unit.mp hx 0
  exact mem_slotM.mpr (by omega)

/-! ## The contents -/

section Contents

variable (m : (ℓ : Loc nD τ sig) → Buf (Elt F) ℓ)

/-- The blocks of device `c`'s query, keys and values at a grid point. -/
def qB (c : Dev nD) (t : Fin cfg0.N) : Vec F S1x8x8x128 .bf16 := iblk m c 0 t
def kB (c : Dev nD) (t : Fin cfg0.N) : Vec F S1x1024x8x128 .bf16 := iblk m c 1 t
def vB (c : Dev nD) (t : Fin cfg0.N) : Vec F S1x1024x8x128 .bf16 := iblk m c 2 t

/-- What a grid point computes: the weighted values, the row maxima and the row sums of eight heads. -/
def pvAt (c : Dev nD) (t : Fin cfg0.N) : Vec F S1x8x8x128 .bf16 :=
  k0_pay4 (k0_pay28 (vB m c t)) (k0_pay29 (kB m c t) (qB m c t)) (k0_pay31 (kB m c t) (qB m c t))
def mAt (c : Dev nD) (t : Fin cfg0.N) : Vec F S1x1x8x8 .f32 := k0_pay5 (k0_pay30 (kB m c t) (qB m c t))
def lAt (c : Dev nD) (t : Fin cfg0.N) : Vec F S1x1x8x8 .f32 :=
  k0_pay6 (k0_pay29 (kB m c t) (qB m c t)) (k0_pay31 (kB m c t) (qB m c t))

/-- The half a head belongs to, and its place within the half. -/
def hHalf (h : Fin 16) : Fin 2 := ⟨h.val / 8, by omega⟩
def hIn (h : Fin 16) : Fin 8 := ⟨h.val % 8, by omega⟩

/-- Device `c`'s accumulator after its last grid point, -/
def accF (c : Dev nD) : S8x8x16x128.Idx → Elt F .bf16 := fun x =>
  pvAt m c (pt (x 0) (hHalf (x 2))) (ix4 (0 : Fin 1) (x 1 : Fin 8) (hIn (x 2)) (x 3 : Fin 128))

/-- its row statistics: the maxima, then the sums. -/
def mlF (c : Dev nD) : S8x2x16x8.Idx → Elt F .f32 := fun x =>
  if (x 1).val = 0 then mAt m c (pt (x 0) (hHalf (x 2))) (ix4 (0 : Fin 1) (0 : Fin 1) (hIn (x 2)) (x 3 : Fin 8))
  else lAt m c (pt (x 0) (hHalf (x 2))) (ix4 (0 : Fin 1) (0 : Fin 1) (hIn (x 2)) (x 3 : Fin 8))

/-- Batch `b` of an accumulator, and one statistic of batch `b`, as the combination loads them. -/
def cutA (f : S8x8x16x128.Idx → Elt F .bf16) (b : Fin 8) : Vec F S1x8x16x128 .bf16 := fun x => f (ix4 b (x 1 : Fin 8) (x 2 : Fin 16) (x 3 : Fin 128))
def cutM (f : S8x2x16x8.Idx → Elt F .f32) (b : Fin 8) (s : Fin 2) : Vec F S1x1x16x8 .f32 := fun x => f (ix4 b s (x 2 : Fin 16) (x 3 : Fin 8))

/-- Two devices' halves of one batch combined: the output block from the two statistics and accumulators. -/
def combine (f f' : S8x2x16x8.Idx → Elt F .f32) (g g' : S8x8x16x128.Idx → Elt F .bf16) (b : Fin 8) : Vec F S1x8x16x128 .f32 :=
  k0_pay7 (k0_pay14 (cutM f b 0) (cutM f' b 0) (cutM f b 1) (cutM f' b 1)) (k0_pay15 (cutM f b 0) (cutM f' b 0)) (k0_pay16 (cutM f b 0) (cutM f' b 0))
    (cutA g b) (cutA g' b)

/-- The output block of batch `b` on device `c`. -/
def outB (c : Dev nD) (b : Fin 8) : Vec F S1x8x16x128 .f32 := combine (mlF m c) (mlF m (peer c)) (accF m c) (accF m (peer c)) b

end Contents

/-! ## Loads and stores through the scratch buffers -/

section Access

/-- A view's write read back at one of its elements. -/
theorem write_at {κ : Kind} {sp : Space} {s : Shape} {e : EltTy} {Val : EltTy → Type} (v : View sig κ sp s e) (f : v.ty.Contents Val) (w : s.Idx → Val e)
    {x : s.Idx} {i : v.ty.Idx} (h : v.emb x = i) : v.write Val f w Finset.univ i = cast (congrArg Val v.elt_eq.symm) (w x) := by
  subst h; exact View.write_emb_of_mem f w (Finset.mem_univ x)

theorem load_acc (b : Fin 8) {off : Fin 4 → ℕ} (h : off = ![b.val, 0, 0, 0]) (inb) (f : S8x8x16x128.Idx → Elt F .bf16) :
    (Memref.whole cc0_scratch0 : Memref sig .tc .vmem S8x8x16x128 .bf16).view.readAt (Elt F) (Rect.unit (s := S8x8x16x128) off S1x8x16x128.size inb).toLoadRect f = cutA f b := by
  subst h
  funext x
  refine congrArg f (funext fun a => Fin.ext ?_)
  have h0 : (x 0).val < 1 := (x 0).isLt
  fin_cases a
  · show b.val + 1 * (x 0).val = b.val
    omega
  · show 0 + 1 * (x 1).val = (x 1).val
    omega
  · show 0 + 1 * (x 2).val = (x 2).val
    omega
  · show 0 + 1 * (x 3).val = (x 3).val
    omega

theorem load_ml (b : Fin 8) (s : Fin 2) {off : Fin 4 → ℕ} (h : off = ![b.val, s.val, 0, 0]) (inb) (f : S8x2x16x8.Idx → Elt F .f32) :
    (Memref.whole cc0_scratch1 : Memref sig .tc .vmem S8x2x16x8 .f32).view.readAt (Elt F) (Rect.unit (s := S8x2x16x8) off S1x1x16x8.size inb).toLoadRect f = cutM f b s := by
  subst h
  funext x
  refine congrArg f (funext fun a => Fin.ext ?_)
  have h0 : (x 0).val < 1 := (x 0).isLt
  have h1 : (x 1).val < 1 := (x 1).isLt
  fin_cases a
  · show b.val + 1 * (x 0).val = b.val
    omega
  · show s.val + 1 * (x 1).val = s.val
    omega
  · show 0 + 1 * (x 2).val = (x 2).val
    omega
  · show 0 + 1 * (x 3).val = (x 3).val
    omega

/-- What a store of half `h` leaves in batch `b`'s slot: the stored block in the half, the old contents elsewhere. -/
theorem store_acc (b : Fin 8) (h : Fin 2) {off : Fin 4 → ℕ} (ho : off = ![b.val, 0, 8 * h.val, 0]) (inb)
    (f : S8x8x16x128.Idx → Elt F .bf16) (w : Vec F S1x8x8x128 .bf16) (x : S8x8x16x128.Idx) (hx : (x 0).val = b.val) :
    ((Memref.whole cc0_scratch0 : Memref sig .tc .vmem S8x8x16x128 .bf16).access (Rect.unit (s := S8x8x16x128) off S1x8x8x128.size inb)).write (Elt F) f w Finset.univ x
      = if hHalf (x 2) = h then w (ix4 (0 : Fin 1) (x 1 : Fin 8) (hIn (x 2)) (x 3 : Fin 128)) else f x := by
  subst ho
  have h2 : (x 2).val < 16 := (x 2).isLt
  split
  · rename_i hh
    have hh' : (x 2).val / 8 = h.val := congrArg Fin.val hh
    have hE : ((Memref.whole cc0_scratch0 : Memref sig .tc .vmem S8x8x16x128 .bf16).access (Rect.unit (s := S8x8x16x128) ![b.val, 0, 8 * h.val, 0] S1x8x8x128.size inb)).emb
        (ix4 (0 : Fin 1) (x 1 : Fin 8) (hIn (x 2)) (x 3 : Fin 128)) = x := by
      refine funext fun a => Fin.ext ?_
      fin_cases a
      · show b.val + 1 * 0 = (x 0).val
        omega
      · show 0 + 1 * (x 1).val = (x 1).val
        omega
      · show 8 * h.val + 1 * ((x 2).val % 8) = (x 2).val
        omega
      · show 0 + 1 * (x 3).val = (x 3).val
        omega
    exact write_at (Val := Elt F) ((Memref.whole cc0_scratch0 : Memref sig .tc .vmem S8x8x16x128 .bf16).access (Rect.unit (s := S8x8x16x128) ![b.val, 0, 8 * h.val, 0] S1x8x8x128.size inb)) f w hE
  · rename_i hh
    refine View.write_of_not_mem _ _ _ fun hm => hh ?_
    rw [View.setOn_univ, View.set_slice_whole] at hm
    have h2' : 8 * h.val ≤ (x 2).val ∧ (x 2).val < 8 * h.val + 8 := Rect.mem_set_unit.mp hm 2
    exact Fin.ext (show (x 2).val / 8 = h.val by omega)

theorem store_ml (b : Fin 8) (s h : Fin 2) {off : Fin 4 → ℕ} (ho : off = ![b.val, s.val, 8 * h.val, 0]) (inb)
    (f : S8x2x16x8.Idx → Elt F .f32) (w : Vec F S1x1x8x8 .f32) (x : S8x2x16x8.Idx) (hx : (x 0).val = b.val) :
    ((Memref.whole cc0_scratch1 : Memref sig .tc .vmem S8x2x16x8 .f32).access (Rect.unit (s := S8x2x16x8) off S1x1x8x8.size inb)).write (Elt F) f w Finset.univ x
      = if (x 1).val = s.val ∧ hHalf (x 2) = h then w (ix4 (0 : Fin 1) (0 : Fin 1) (hIn (x 2)) (x 3 : Fin 8)) else f x := by
  subst ho
  have h2 : (x 2).val < 16 := (x 2).isLt
  split
  · rename_i hh
    obtain ⟨hs, hh⟩ := hh
    have hh' : (x 2).val / 8 = h.val := congrArg Fin.val hh
    have hE : ((Memref.whole cc0_scratch1 : Memref sig .tc .vmem S8x2x16x8 .f32).access (Rect.unit (s := S8x2x16x8) ![b.val, s.val, 8 * h.val, 0] S1x1x8x8.size inb)).emb
        (ix4 (0 : Fin 1) (0 : Fin 1) (hIn (x 2)) (x 3 : Fin 8)) = x := by
      refine funext fun a => Fin.ext ?_
      fin_cases a
      · show b.val + 1 * 0 = (x 0).val
        omega
      · show s.val + 1 * 0 = (x 1).val
        omega
      · show 8 * h.val + 1 * ((x 2).val % 8) = (x 2).val
        omega
      · show 0 + 1 * (x 3).val = (x 3).val
        omega
    exact write_at _ f w hE
  · rename_i hh
    refine View.write_of_not_mem _ _ _ fun hm => hh ?_
    rw [View.setOn_univ, View.set_slice_whole] at hm
    have h1' : s.val ≤ (x 1).val ∧ (x 1).val < s.val + 1 := Rect.mem_set_unit.mp hm 1
    have h2' : 8 * h.val ≤ (x 2).val ∧ (x 2).val < 8 * h.val + 8 := Rect.mem_set_unit.mp hm 2
    exact ⟨by omega, Fin.ext (show (x 2).val / 8 = h.val by omega)⟩

end Access

end Cert.KernelIdeal.Run

end
-- ==== Proof.Schedule.lean ====
/-
# 01_k — `Schedule`: who pays which semaphore, and with what

Every device has one barrier cell and, per batch, four transfer cells: the sending and the receiving side's of the
accumulator's copy and of the statistics'. Each has one round of one duty. The partner's signal pays the barrier
cell with the partner's landing buffers; a copy pays its sender's cell with the source slot and its receiver's
with the landing slot, written.
-/
module

public import proofs.«01_k».proof.Proof.Common

@[expose] public section

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resources -/

/-- The protocol's rounds, duties named by `Unit`; -/
abbrev UB : Type := URounds (GSem nD τ sig) Unit
/-- with the pipeline's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- A device's cell of a given name. -/
abbrev cell (c : Dev nD) (x : CK) : GSem nD τ sig := ((c : Thread nD τ), csem x)
abbrev barC (c : Dev nD) : GSem nD τ sig := cell c none
abbrev sendC (c : Dev nD) (k : Fin 2) (b : Fin 8) : GSem nD τ sig := cell c (some (false, k, b))
abbrev recvC (c : Dev nD) (k : Fin 2) (b : Fin 8) : GSem nD τ sig := cell c (some (true, k, b))

theorem cell_inj {c c' : Dev nD} {x x' : CK} (h : cell c x = cell c' x') : c = c' ∧ x = x' :=
  ⟨by have := congrArg (fun g : GSem nD τ sig => g.1.1) h; exact this, csem_injective (congrArg Prod.snd h)⟩

/-! ## The slots' memrefs and their credits -/

abbrev accM (off : Fin 4 → ℕ) (inb : ∀ a, off a + S1x8x16x128.size a ≤ S8x8x16x128.size a) : Memref sig .tc .vmem S8x16x128 .bf16 :=
  ((Memref.whole cc0_scratch0 : Memref sig .tc .vmem S8x8x16x128 .bf16).slice (Rect.unit (s := S8x8x16x128) off S1x8x16x128.size inb) (fun _ => rfl)).squeeze S8x16x128 squeezes_S1x8x16x128_S8x16x128
abbrev mlM (off : Fin 4 → ℕ) (inb : ∀ a, off a + S1x2x16x8.size a ≤ S8x2x16x8.size a) : Memref sig .tc .vmem S2x16x8 .f32 :=
  ((Memref.whole cc0_scratch1 : Memref sig .tc .vmem S8x2x16x8 .f32).slice (Rect.unit (s := S8x2x16x8) off S1x2x16x8.size inb) (fun _ => rfl)).squeeze S2x16x8 squeezes_S1x2x16x8_S2x16x8
abbrev raccM (off : Fin 4 → ℕ) (inb : ∀ a, off a + S1x8x16x128.size a ≤ S8x8x16x128.size a) : Memref sig .tc .vmem S8x16x128 .bf16 :=
  ((Memref.whole cc0_scratch2 : Memref sig .tc .vmem S8x8x16x128 .bf16).slice (Rect.unit (s := S8x8x16x128) off S1x8x16x128.size inb) (fun _ => rfl)).squeeze S8x16x128 squeezes_S1x8x16x128_S8x16x128
abbrev rmlM (off : Fin 4 → ℕ) (inb : ∀ a, off a + S1x2x16x8.size a ≤ S8x2x16x8.size a) : Memref sig .tc .vmem S2x16x8 .f32 :=
  ((Memref.whole cc0_scratch3 : Memref sig .tc .vmem S8x2x16x8 .f32).slice (Rect.unit (s := S8x2x16x8) off S1x2x16x8.size inb) (fun _ => rfl)).squeeze S2x16x8 squeezes_S1x2x16x8_S2x16x8

/-- The credit of one accumulator slot's copy, -/
def NA : ℕ := (raccM ![0, 0, 0, 0] (by decide)).view.dmaCredit
/-- and of one statistics slot's. -/
def NM : ℕ := (rmlM ![0, 0, 0, 0] (by decide)).view.dmaCredit

theorem NA_pos : 0 < NA := View.dmaCredit_pos _ (by decide)
theorem NM_pos : 0 < NM := View.dmaCredit_pos _ (by decide)

theorem accM_credit {off : Fin 4 → ℕ} (inb) : (accM off inb).view.dmaCredit = NA := rfl
theorem raccM_credit {off : Fin 4 → ℕ} (inb) : (raccM off inb).view.dmaCredit = NA := rfl
theorem mlM_credit {off : Fin 4 → ℕ} (inb) : (mlM off inb).view.dmaCredit = NM := rfl
theorem rmlM_credit {off : Fin 4 → ℕ} (inb) : (rmlM off inb).view.dmaCredit = NM := rfl

theorem accM_set (b : Fin 8) {off : Fin 4 → ℕ} (h : off = ![b.val, 0, 0, 0]) (inb) : (accM off inb).view.set = slotA b := by
  show (((View.whole cc0_scratch0).slice (Rect.unit off S1x8x16x128.size inb)).reshape S8x16x128 _).set = _
  rw [View.set_reshape, View.set_slice_whole]
  exact rectA_set b h inb
theorem raccM_set (b : Fin 8) {off : Fin 4 → ℕ} (h : off = ![b.val, 0, 0, 0]) (inb) : (raccM off inb).view.set = slotA b := by
  show (((View.whole cc0_scratch2).slice (Rect.unit off S1x8x16x128.size inb)).reshape S8x16x128 _).set = _
  rw [View.set_reshape, View.set_slice_whole]
  exact rectA_set b h inb
theorem mlM_set (b : Fin 8) {off : Fin 4 → ℕ} (h : off = ![b.val, 0, 0, 0]) (inb) : (mlM off inb).view.set = slotM b := by
  show (((View.whole cc0_scratch1).slice (Rect.unit off S1x2x16x8.size inb)).reshape S2x16x8 _).set = _
  rw [View.set_reshape, View.set_slice_whole]
  exact rectM_set b h inb
theorem rmlM_set (b : Fin 8) {off : Fin 4 → ℕ} (h : off = ![b.val, 0, 0, 0]) (inb) : (rmlM off inb).view.set = slotM b := by
  show (((View.whole cc0_scratch3).slice (Rect.unit off S1x2x16x8.size inb)).reshape S2x16x8 _).set = _
  rw [View.set_reshape, View.set_slice_whole]
  exact rectM_set b h inb

/-! ## The slots held -/

/-- Batch `b`'s slot of device `c`'s accumulator, its statistics and the two landing buffers, at the whole
    buffer's contents `f`. -/
def accS (c : Dev nD) (b : Fin 8) (f : S8x8x16x128.Idx → Elt F .bf16) : sProp 𝕄 := ((c : Thread nD τ).loc cc0_scratch0) ↦[slotA b]{fullShare} f
def mlS (c : Dev nD) (b : Fin 8) (f : S8x2x16x8.Idx → Elt F .f32) : sProp 𝕄 := ((c : Thread nD τ).loc cc0_scratch1) ↦[slotM b]{fullShare} f
def raccS (c : Dev nD) (b : Fin 8) (f : S8x8x16x128.Idx → Elt F .bf16) : sProp 𝕄 := ((c : Thread nD τ).loc cc0_scratch2) ↦[slotA b]{fullShare} f
def rmlS (c : Dev nD) (b : Fin 8) (f : S8x2x16x8.Idx → Elt F .f32) : sProp 𝕄 := ((c : Thread nD τ).loc cc0_scratch3) ↦[slotM b]{fullShare} f

omit [FloatOps F] [Named F] in
instance accS_storable (c : Dev nD) (b f) : BI.Storable (upEmb : UEmb _ 𝕄) (accS (F := F) c b f) := by unfold accS; infer_instance
omit [FloatOps F] [Named F] in
instance mlS_storable (c : Dev nD) (b f) : BI.Storable (upEmb : UEmb _ 𝕄) (mlS (F := F) c b f) := by unfold mlS; infer_instance
omit [FloatOps F] [Named F] in
instance raccS_storable (c : Dev nD) (b f) : BI.Storable (upEmb : UEmb _ 𝕄) (raccS (F := F) c b f) := by unfold raccS; infer_instance
omit [FloatOps F] [Named F] in
instance rmlS_storable (c : Dev nD) (b f) : BI.Storable (upEmb : UEmb _ 𝕄) (rmlS (F := F) c b f) := by unfold rmlS; infer_instance

omit [FloatOps F] [Named F] in
theorem accS_congr (c : Dev nD) (b : Fin 8) {f g : S8x8x16x128.Idx → Elt F .bf16} (h : ∀ x, (x 0).val = b.val → f x = g x) : accS c b f = accS c b g :=
  pointsTo_congr fun x hx => h x (mem_slotA.mp hx)
omit [FloatOps F] [Named F] in
theorem raccS_congr (c : Dev nD) (b : Fin 8) {f g : S8x8x16x128.Idx → Elt F .bf16} (h : ∀ x, (x 0).val = b.val → f x = g x) : raccS c b f = raccS c b g :=
  pointsTo_congr fun x hx => h x (mem_slotA.mp hx)
omit [FloatOps F] [Named F] in
theorem mlS_congr (c : Dev nD) (b : Fin 8) {f g : S8x2x16x8.Idx → Elt F .f32} (h : ∀ x, (x 0).val = b.val → f x = g x) : mlS c b f = mlS c b g :=
  pointsTo_congr fun x hx => h x (mem_slotM.mp hx)
omit [FloatOps F] [Named F] in
theorem rmlS_congr (c : Dev nD) (b : Fin 8) {f g : S8x2x16x8.Idx → Elt F .f32} (h : ∀ x, (x 0).val = b.val → f x = g x) : rmlS c b f = rmlS c b g :=
  pointsTo_congr fun x hx => h x (mem_slotM.mp hx)

/-! ## The schedule -/

/-- What the partner's signal hands device `c`: the partner's landing slots, all of them. -/
def barPay (c : Dev nD) : sProp 𝕄 :=
  bigSep Finset.univ fun b : Fin 8 => iprop((∃ f, raccS (peer c) b f) ∗ (∃ f, rmlS (peer c) b f))

/-- What a copy's completion hands back (the source slot) or over (the landing slot). -/
def xPay (c : Dev nD) (r : Bool) (k : Fin 2) (b : Fin 8) : sProp 𝕄 :=
  if r then (if k = 0 then raccS c b (accF m (peer c)) else rmlS c b (mlF m (peer c)))
  else (if k = 0 then accS c b (accF m c) else mlS c b (mlF m c))

def payOf (c : Dev nD) : Option CK → sProp 𝕄
  | some none => barPay c
  | some (some (r, k, b)) => xPay m c r k b
  | none => iprop(emp)

instance payOf_storable (c : Dev nD) (o : Option CK) : BI.Storable (upEmb : UEmb _ 𝕄) (payOf m c o) := by
  match o with
  | some none => show BI.Storable upEmb (barPay c); unfold barPay; infer_instance
  | some (some (r, k, b)) => show BI.Storable upEmb (xPay m c r k b); unfold xPay; (repeat' split) <;> infer_instance
  | none => show BI.Storable upEmb iprop(emp); infer_instance

def amtOf : Option CK → ℕ
  | some none => 1
  | some (some (_, k, _)) => if k = 0 then NA else NM
  | none => 1

theorem amtOf_pos (o : Option CK) : 0 < amtOf o := by
  match o with
  | some none => exact Nat.one_pos
  | some (some (_, k, _)) => show 0 < ite _ _ _; split; exacts [NA_pos, NM_pos]
  | none => exact Nat.one_pos

/-- One round of one duty at every cell of the protocol. -/
def Rd : Rounds.Schedule (GSem nD τ sig) Unit 𝕄 where
  duties g r := if r = 0 ∧ g.1.2 = .tc ∧ (decode g.2).isSome then {()} else ∅
  unitless _ := False
  amount g _ _ := amtOf (decode g.2)
  payload g _ _ := payOf m g.1.1 (decode g.2)
  amount_pos g _ _ _ := amtOf_pos _

instance Rd_payload_storable (g : GSem nD τ sig) (r : ℕ) (d : Unit) : BI.Storable (upEmb : UEmb _ 𝕄) ((Rd (F := F) m).payload g r d) := by
  show BI.Storable upEmb (payOf m g.1.1 (decode g.2))
  infer_instance

theorem duties_cell (c : Dev nD) (x : CK) : (Rd (F := F) m).duties (cell c x) 0 = {()} :=
  if_pos ⟨rfl, rfl, by show (decode (csem x)).isSome; rw [decode_csem]; rfl⟩
theorem duties_later (g : GSem nD τ sig) : ∀ r, 1 ≤ r → (Rd (F := F) m).duties g r = ∅ := fun r hr => if_neg fun h => by omega
theorem duty_mem (c : Dev nD) (x : CK) : () ∈ (Rd (F := F) m).duties (cell c x) 0 := by rw [duties_cell]; exact Finset.mem_singleton_self _
theorem amount_cell (c : Dev nD) (x : CK) (d : Unit) : (Rd (F := F) m).amount (cell c x) 0 d = amtOf (some x) := by
  show amtOf (decode (csem x)) = _; rw [decode_csem]
theorem payload_cell (c : Dev nD) (x : CK) (d : Unit) : (Rd (F := F) m).payload (cell c x) 0 d = payOf m c (some x) := by
  show payOf m c (decode (csem x)) = _; rw [decode_csem]
theorem expect_cell (c : Dev nD) (x : CK) : (Rd (F := F) m).expect (cell c x) 0 = amtOf (some x) := by
  unfold Schedule.expect Schedule.amountOf; rw [duties_cell, Finset.sum_singleton, amount_cell]
/-- The one payload of a cell's round. -/
theorem rest_cell (c : Dev nD) (x : CK) :
    bigSep ((Rd (F := F) m).duties (cell c x) 0 \ ∅) (fun d => (Rd (F := F) m).payload (cell c x) 0 d) = payOf m c (some x) := by
  rw [Finset.sdiff_empty, duties_cell, bigSep_singleton, payload_cell]

/-! ## What a device owes -/

/-- The two landing credits of batch `b` that device `c` owes its partner. -/
def owedB (c : Dev nD) (b : Fin 8) : CellTallies nD τ sig Unit := tallyAt (recvC (peer c) 1 b) () NM + tallyAt (recvC (peer c) 0 b) () NA

/-- What is owed from grid point `t` on, the barrier's unit apart: the credits of the batches not sent yet. -/
def owedT (c : Dev nD) (t : ℕ) : CellTallies nD τ sig Unit := ∑ b : Fin 8, if t ≤ 2 * b.val + 1 then owedB c b else 0

/-- What is owed at launch: the partner's barrier unit besides. -/
def O₀ (c : Dev nD) : CellTallies nD τ sig Unit := owedT c 0 + tallyAt (barC (peer c)) () 1

/-- The first half of a batch sends nothing, -/
theorem owedT_even (c : Dev nD) (b : Fin 8) : owedT c (2 * b.val + 1) = owedT c (2 * b.val) := by
  unfold owedT
  refine Finset.sum_congr rfl fun b' _ => ?_
  by_cases h : 2 * b.val + 1 ≤ 2 * b'.val + 1
  · rw [if_pos h, if_pos (by omega)]
  · rw [if_neg h, if_neg (by omega)]
/-- the second half sends the batch's two slots. -/
theorem owedT_odd (c : Dev nD) (b : Fin 8) : owedT c (2 * b.val + 1) = owedT c (2 * b.val + 2) + owedB c b := by
  unfold owedT
  rw [← Finset.sum_erase_add _ (fun b' : Fin 8 => if 2 * b.val + 1 ≤ 2 * b'.val + 1 then owedB c b' else 0) (Finset.mem_univ b),
    ← Finset.sum_erase_add _ (fun b' : Fin 8 => if 2 * b.val + 2 ≤ 2 * b'.val + 1 then owedB c b' else 0) (Finset.mem_univ b),
    if_pos (le_refl _), if_neg (by omega), add_zero]
  refine congrArg (· + owedB c b) (Finset.sum_congr rfl fun b' hb' => ?_)
  have hne : b'.val ≠ b.val := fun h => (Finset.mem_erase.mp hb').1 (Fin.ext h)
  by_cases h : 2 * b.val + 1 ≤ 2 * b'.val + 1
  · rw [if_pos h, if_pos (by omega)]
  · rw [if_neg h, if_neg (by omega)]
/-- Nothing is owed at the end. -/
theorem owedT_last (c : Dev nD) : owedT c 16 = 0 := by
  unfold owedT
  exact Finset.sum_eq_zero fun b _ => if_neg (by omega)

theorem owedB_pos {c : Dev nD} {b : Fin 8} {g : GSem nD τ sig} {u : Unit} (h : 0 < owedB c b g u) : ∃ k, g = recvC (peer c) k b := by
  unfold owedB at h
  rw [Pi.add_apply, Finsupp.add_apply, tallyAt_apply, tallyAt_apply] at h
  by_contra hn
  rw [if_neg (fun h' => hn ⟨1, h'.1⟩), if_neg (fun h' => hn ⟨0, h'.1⟩)] at h
  exact Nat.lt_irrefl 0 h

theorem owedT_apply (c : Dev nD) (t : ℕ) (g : GSem nD τ sig) (u : Unit) :
    owedT c t g u = ∑ b : Fin 8, if t ≤ 2 * b.val + 1 then owedB c b g u else 0 := by
  unfold owedT
  rw [Finset.sum_apply, Finsupp.finset_sum_apply]
  refine Finset.sum_congr rfl fun b _ => ?_
  split <;> rfl

theorem owedT_pos {c : Dev nD} {t : ℕ} {g : GSem nD τ sig} {u : Unit} (h : 0 < owedT c t g u) :
    ∃ k b, g = recvC (peer c) k b ∧ t ≤ 2 * b.val + 1 := by
  rw [owedT_apply] at h
  obtain ⟨b, _, hb⟩ := Finset.exists_ne_zero_of_sum_ne_zero h.ne'
  by_cases ht : t ≤ 2 * b.val + 1
  · rw [if_pos ht] at hb
    obtain ⟨k, hk⟩ := owedB_pos (Nat.pos_of_ne_zero hb)
    exact ⟨k, b, hk, ht⟩
  · rw [if_neg ht] at hb; exact absurd rfl hb

/-! ## The levels -/

def L (g : GSem nD τ sig) : Finset Unit := if g.1.2 = .tc then {()} else ∅
/-- The barrier below the landing cells, those in the order of the batches; everything else at zero. -/
def lv (g : GSem nD τ sig) (_ : Unit) : ℕ :=
  match decode g.2 with
  | some none => 1
  | some (some (true, _, b)) => 2 + b.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := by unfold lv; rw [show decode (barC c).2 = some none from decode_csem none]
theorem lv_recv (c : Dev nD) (k b) : lv (recvC c k b) () = 2 + b.val := by
  unfold lv; rw [show decode (recvC c k b).2 = some (some (true, k, b)) from decode_csem (some (true, k, b))]
theorem lv_send (c : Dev nD) (k b) : lv (sendC c k b) () = 0 := by
  unfold lv; rw [show decode (sendC c k b).2 = some (some (false, k, b)) from decode_csem (some (false, k, b))]

/-- A device may wait at a cell of level `n` when all it owes lies above. -/
theorem mayWait_of (c : Dev nD) (sm : SemLoc sig) (O : CellTallies nD τ sig Unit) (n : ℕ) (hn : lv ((c : Thread nD τ), sm) () ≤ n)
    (hO : ∀ g u, 0 < O g u → g.1.2 = .tc ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- What is owed from `t` on lies above every level at most `n`, `n` below the first batch still to be sent. -/
theorem mayWait_T (c : Dev nD) (sm : SemLoc sig) (t n : ℕ) (hn : lv ((c : Thread nD τ), sm) () ≤ n) (ht : 2 * n < t + 3) :
    (levAts L lv : sProp 𝕄) ⊢ MayWait (c : Thread nD τ) sm () (owedT c t) :=
  mayWait_of c sm _ n hn fun g u hg => by
    obtain ⟨k, b, rfl, hb⟩ := owedT_pos hg
    refine ⟨rfl, ?_⟩
    show n < lv (recvC (peer c) k b) ()
    rw [lv_recv]; omega

/-- The staging cells wait below all that is owed at launch. -/
theorem mayWait_O₀ (c : Dev nD) (sm : SemLoc sig) (hn : lv ((c : Thread nD τ), sm) () = 0) :
    (levAts L lv : sProp 𝕄) ⊢ MayWait (c : Thread nD τ) sm () (O₀ c) :=
  mayWait_of c sm _ 0 hn.le fun g u hg => by
    unfold O₀ at hg
    rw [Pi.add_apply, Finsupp.add_apply] at hg
    rcases Nat.eq_zero_or_pos (owedT c 0 g u) with h0 | h0
    · rw [h0, Nat.zero_add, tallyAt_apply] at hg
      by_cases h : g = barC (peer c) ∧ u = ()
      · rw [h.1]; exact ⟨rfl, by rw [lv_bar]; decide⟩
      · rw [if_neg h] at hg; exact absurd hg (Nat.lt_irrefl 0)
    · obtain ⟨k, b, rfl, hb⟩ := owedT_pos h0
      exact ⟨rfl, by rw [lv_recv]; omega⟩

/-- The owed credits of one batch, in the order they are sent. -/
theorem owedB_eq (c : Dev nD) (O : CellTallies nD τ sig Unit) (b : Fin 8) :
    O + owedB c b = (O + tallyAt (recvC (peer c) 1 b) () NM) + tallyAt (recvC (peer c) 0 b) () NA := by unfold owedB; rw [add_assoc]

end Cert.KernelIdeal.Run

end
-- ==== Proof.State.lean ====
/-
# 01_k — `State`: what a device holds between grid points

Each batch's slot is in one of four states: fresh, its first half of heads stored, in flight to the partner, or
done, both devices' halves there to read. A grid point moves one slot on, or two.
-/
module

public import proofs.«01_k».proof.Proof.Schedule

@[expose] public section

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The protocol's records -/

/-- Every cell's invariant, at the names `K`, and that its round 0 is reached. -/
def records (K : Dev nD × CK → ℕ) : sProp 𝕄 :=
  iprop((bigSep Finset.univ fun x : Dev nD × CK => cellInv ER (Rd m) (K x) (cell x.1 x.2))
    ∗ bigSep Finset.univ fun x : Dev nD × CK => reached ER (cell x.1 x.2) 0)

instance records_persistent (K : Dev nD × CK → ℕ) : BI.Persistent (records m K) := by unfold records; infer_instance

theorem all_elim (Φ : Dev nD × CK → sProp 𝕄) (x : Dev nD × CK) : bigSep Finset.univ Φ ⊢ Φ x := bigSep_elim (Finset.mem_univ x)

theorem records_inv (K : Dev nD × CK → ℕ) (c : Dev nD) (x : CK) : records m K ⊢ cellInv ER (Rd m) (K (c, x)) (cell c x) :=
  sep_elim_left.trans (all_elim (fun x : Dev nD × CK => (cellInv ER (Rd m) (K x) (cell x.1 x.2) : sProp 𝕄)) (c, x))
theorem records_reached (K : Dev nD × CK → ℕ) (c : Dev nD) (x : CK) : records m K ⊢ reached ER (cell c x) 0 :=
  sep_elim_right.trans (all_elim (fun x : Dev nD × CK => (reached ER (cell x.1 x.2) 0 : sProp 𝕄)) (c, x))

/-- The position before its round of one of the device's cells. -/
abbrev posAt (c : Dev nD) (x : CK) : sProp 𝕄 := atPos ER (cell c x) 0 ∅ 0
/-- The token of the one duty of a cell. -/
abbrev tokAt (c : Dev nD) (x : CK) : sProp 𝕄 := dutyTok ER (cell c x) 0 ()

/-! ## The states of a slot -/

/-- The duties device `c` pays for batch `b`: its own sending cells', its partner's receiving cells'. -/
def toksB (c : Dev nD) (b : Fin 8) : sProp 𝕄 :=
  iprop(tokAt c (some (false, 0, b)) ∗ tokAt c (some (false, 1, b)) ∗ tokAt (peer c) (some (true, 0, b)) ∗ tokAt (peer c) (some (true, 1, b)))

/-- What it waits with: the landing credits and the positions of its four cells. -/
def ticket (c : Dev nD) (b : Fin 8) : sProp 𝕄 :=
  iprop(cred (tallyAt (recvC c 0 b) () NA) ∗ cred (tallyAt (recvC c 1 b) () NM)
    ∗ posAt c (some (false, 0, b)) ∗ posAt c (some (false, 1, b)) ∗ posAt c (some (true, 0, b)) ∗ posAt c (some (true, 1, b)))

/-- What the sends need besides the slots: the partner's landing slots and the duties. -/
def pend (c : Dev nD) (b : Fin 8) : sProp 𝕄 :=
  iprop((∃ f, raccS (peer c) b f) ∗ (∃ f, rmlS (peer c) b f) ∗ toksB c b ∗ ticket c b)

def fresh (c : Dev nD) (b : Fin 8) : sProp 𝕄 := iprop((∃ f, accS c b f) ∗ (∃ f, mlS c b f) ∗ pend c b)

/-- The first eight heads stored. -/
def half (c : Dev nD) (b : Fin 8) : sProp 𝕄 :=
  iprop((∃ f, ⌜∀ x, (x 0).val = b.val → hHalf (x 2) = 0 → f x = accF m c x⌝ ∗ accS c b f)
    ∗ (∃ f, ⌜∀ x, (x 0).val = b.val → hHalf (x 2) = 0 → f x = mlF m c x⌝ ∗ mlS c b f) ∗ pend c b)

/-- Both slots sent. -/
def flight (c : Dev nD) (b : Fin 8) : sProp 𝕄 :=
  iprop(cred (tallyAt (sendC c 0 b) () NA) ∗ cred (tallyAt (sendC c 1 b) () NM) ∗ ticket c b)

/-- The four counters at zero. -/
def zeros (c : Dev nD) (b : Fin 8) : sProp 𝕄 :=
  iprop(semVal (sendC c 0 b) 0 ∗ semVal (sendC c 1 b) 0 ∗ semVal (recvC c 0 b) 0 ∗ semVal (recvC c 1 b) 0)

/-- Both copies waited for: the slots back, the landing slots written, the cells closed. -/
def finished (c : Dev nD) (b : Fin 8) : sProp 𝕄 :=
  iprop(accS c b (accF m c) ∗ mlS c b (mlF m c) ∗ raccS c b (accF m (peer c)) ∗ rmlS c b (mlF m (peer c)) ∗ zeros c b)

/-- The state of batch `b`'s slot before grid point `t`. -/
def slotSt (c : Dev nD) (t : ℕ) (b : Fin 8) : sProp 𝕄 :=
  if t ≤ 2 * b.val then fresh c b
  else if t = 2 * b.val + 1 then half m c b
  else if t = 2 * b.val + 2 ∧ b.val ≠ 7 then flight c b
  else finished m c b

def slots (c : Dev nD) (t : ℕ) : sProp 𝕄 := bigSep Finset.univ (slotSt m c t)

/-- What device `c` holds before grid point `t`, the first point's handshake done. -/
def running (c : Dev nD) (t : ℕ) : sProp 𝕄 := iprop((∃ K, records m K) ∗ levAts L lv ∗ semVal (barC c) 0 ∗ slots m c t)

/-- What it starts from: the records, the barrier's duty, credit and position, and every batch's. -/
def start (c : Dev nD) : sProp 𝕄 :=
  iprop((∃ K, records m K) ∗ levAts L lv ∗ tokAt (peer c) none ∗ cred (tallyAt (barC c) () 1) ∗ posAt c none
    ∗ bigSep Finset.univ fun b => iprop(toksB c b ∗ ticket c b))

/-- The four scratch buffers slot by slot, at any contents. -/
def scratch (c : Dev nD) : sProp 𝕄 :=
  bigSep Finset.univ fun b => iprop((∃ f, accS c b f) ∗ (∃ f, mlS c b f) ∗ (∃ f, raccS c b f) ∗ (∃ f, rmlS c b f))

/-! ## Moving slots on -/

section Steps

variable {m}

theorem slotSt_fresh (c : Dev nD) (b : Fin 8) : slotSt m c (2 * b.val) b = fresh c b := if_pos (le_refl _)
theorem slotSt_half (c : Dev nD) (b : Fin 8) : slotSt m c (2 * b.val + 1) b = half m c b := by
  unfold slotSt; rw [if_neg (by omega), if_pos rfl]
theorem slotSt_flight (c : Dev nD) (b : Fin 8) (h : b.val ≠ 7) : slotSt m c (2 * b.val + 2) b = flight c b := by
  unfold slotSt; rw [if_neg (by omega), if_neg (by omega), if_pos ⟨rfl, h⟩]
theorem slotSt_done (c : Dev nD) (b : Fin 8) (t : ℕ) (h : 2 * b.val + 3 ≤ t ∨ b.val = 7 ∧ t = 16) : slotSt m c t b = finished m c b := by
  unfold slotSt; rw [if_neg (by omega), if_neg (by omega), if_neg (by omega)]

/-- A slot that grid point `t` does not touch is as before after it. -/
theorem slotSt_keep (c : Dev nD) (b b' : Fin 8) (j : Fin 2) (h : b'.val ≠ b.val) (h' : j = 0 → b'.val + 1 ≠ b.val) :
    slotSt m c (2 * b.val + j.val) b' = slotSt m c (2 * b.val + j.val + 1) b' := by
  have hj : j.val < 2 := j.isLt
  have h'' : j.val = 0 → b'.val + 1 ≠ b.val := fun e => h' (Fin.ext e)
  unfold slotSt
  by_cases h1 : 2 * b.val + j.val ≤ 2 * b'.val
  · rw [if_pos h1, if_pos (by omega)]
  · rw [if_neg h1, if_neg (by omega), if_neg (by omega), if_neg (by omega)]
    by_cases h2 : 2 * b.val + j.val = 2 * b'.val + 2
    · omega
    · rw [if_neg (by omega), if_neg (by omega)]

theorem split_at {s : Finset (Fin 8)} {b : Fin 8} (h : b ∈ s) (Φ : Fin 8 → sProp 𝕄) : bigSep s Φ = iprop(Φ b ∗ bigSep (s.erase b) Φ) := BI.bigSep_erase h

/-- One slot moves on. -/
theorem slots_step (c : Dev nD) (b : Fin 8) (j : Fin 2) (h : j = 0 → b = 0) :
    slots m c (2 * b.val + j.val) ⊢ iprop(slotSt m c (2 * b.val + j.val) b
      ∗ (slotSt m c (2 * b.val + j.val + 1) b -∗ slots m c (2 * b.val + j.val + 1))) := by
  unfold slots
  rw [bigSep_univ_at _ b, bigSep_univ_at (slotSt m c (2 * b.val + j.val + 1)) b,
    bigSep_congr (s := Finset.univ.erase b) (fun b' hb' => slotSt_keep c b b' j (fun e => (Finset.mem_erase.mp hb').1 (Fin.ext e))
      (fun e => by have := h e; subst this; exact Nat.succ_ne_zero _))]
  iintro ⟨H, Hr⟩
  isplitl [H]; · iexact H
  iintro H
  isplitl [H] <;> iassumption

/-- Two slots move on, the batch's and the one's before. -/
theorem slots_step2 (c : Dev nD) (b p : Fin 8) (hp : p.val + 1 = b.val) :
    slots m c (2 * b.val) ⊢ iprop(slotSt m c (2 * b.val) b ∗ slotSt m c (2 * b.val) p
      ∗ (iprop(slotSt m c (2 * b.val + 1) b ∗ slotSt m c (2 * b.val + 1) p) -∗ slots m c (2 * b.val + 1))) := by
  have hpe : p ∈ (Finset.univ.erase b : Finset (Fin 8)) := Finset.mem_erase.mpr ⟨fun e => by subst e; omega, Finset.mem_univ _⟩
  have hk : bigSep ((Finset.univ.erase b).erase p) (slotSt m c (2 * b.val)) = bigSep ((Finset.univ.erase b).erase p) (slotSt m c (2 * b.val + 1)) :=
    bigSep_congr fun b' hb' => slotSt_keep c b b' 0
      (fun e => (Finset.mem_erase.mp (Finset.mem_erase.mp hb').2).1 (Fin.ext e))
      (fun _ e => (Finset.mem_erase.mp hb').1 (Fin.ext (by omega)))
  unfold slots
  rw [bigSep_univ_at _ b, bigSep_univ_at (slotSt m c (2 * b.val + 1)) b, split_at hpe, split_at hpe (slotSt m c (2 * b.val + 1)), hk]
  iintro ⟨H, Hp, Hr⟩
  isplitl [H]; · iexact H
  isplitl [Hp]; · iexact Hp
  iintro ⟨H, Hp⟩
  isplitl [H]; · iexact H
  isplitl [Hp] <;> iassumption

end Steps

end Cert.KernelIdeal.Run

end
-- ==== Proof.Ops.lean ====
/-
# 01_k — `Ops`: the effects of the body on the protocol's resources

One rule per effect: a wait on a transfer cell, the two copies, the handshake at the first grid point, and the
loads and stores of a slot.
-/
module

public import proofs.«01_k».proof.Proof.State

@[expose] public section

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- What device `c` owes, at whatever waits it has recorded. -/
def owing (c : Dev nD) (O : CellTallies nD τ sig Unit) : sProp 𝕄 := iprop(∃ W, owes (c : Thread nD τ) O W)

/-! ## Waits -/

/-- A wait on a transfer cell: its payload, and the cell closed. -/
theorem wp_wait_x (K : Dev nD × CK → ℕ) (c : Dev nD) (r : Bool) (k : Fin 2) (b : Fin 8) {q : DmaSem sig} (hq : q = xsem r k b)
    {s s' : Shape} {e e' : EltTy} {src : Memref sig .tc .vmem s' e'} {dst : Memref sig .tc .vmem s e} {h1 : src.view.WordExact} {h2 : dst.view.WordExact}
    (hc : dst.view.dmaCredit = amtOf (some (some (r, k, b)))) (t n : ℕ) (hn : lv (cell c (some (r, k, b))) () ≤ n) (ht : 2 * n < t + 3)
    {α : Type} {Q : α → sProp 𝕄} {k' : PUnit → Prog (TpuEff nD τ sig (Elt F) Λ₀ .tc) α} :
    iprop(records m K ∗ levAts L lv ∗ cred (tallyAt (cell c (some (r, k, b))) () (amtOf (some (some (r, k, b))))) ∗ owing c (owedT c t) ∗ posAt c (some (r, k, b)))
      ⊢ iprop(((owing c (owedT c t) ∗ xPay m c r k b ∗ semVal (cell c (some (r, k, b))) 0)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src dst h1 h2) k') Q) := by
  subst hq
  unfold owing
  iintro ⟨#HR, #Hlev, Hc, ⟨%W, HO⟩, Hat⟩ Hk
  iapply (Rounds.wp_wait_rest_token 𝒱₀ ER (Rd m) (c : Thread nD τ) none (κ := K (c, some (r, k, b)))
      (wpE_waitDma2_eq 𝒱₀ (c : Thread nD τ) none Set.univ) (Set.mem_univ _) () (O := owedT c t) (W := W) (R := 0) (m := 0) (T := ∅)
      (by rw [Nat.zero_add, hc]; exact (expect_cell m c (some (r, k, b))).symm)) $$ [Hc HO Hat]
  · isplitr; · iapply (records_inv m K c (some (r, k, b))); iexact HR
    isplitl [Hc]; · rw [hc]; iexact Hc
    isplitl [HO]; · iexact HO
    isplitr; · iapply (mayWait_T c (.dma (xsem r k b)) t n hn ht); iexact Hlev
    iexact Hat
  iintro ⟨HO, Hat, -, Hpay⟩
  ihave Hpay := (show (bigSep ((Rd (F := F) m).duties ((c : Thread nD τ), SemLoc.dma (xsem r k b)) 0 \ ∅) fun d => (Rd (F := F) m).payload ((c : Thread nD τ), SemLoc.dma (xsem r k b)) 0 d)
      ⊢ xPay m c r k b from Entails.of_eq (rest_cell m c (some (r, k, b)))) $$ Hpay
  imod (Rounds.cell_close ER (Rd m) (Set.mem_univ (K (c, some (r, k, b)))) (fun h => h) (R := 0 + 1) (duties_later m (cell c (some (r, k, b))))) $$ [Hat] with Hz
  · isplitr; · iapply (records_inv m K c (some (r, k, b))); iexact HR
    iexact Hat
  iapply Hk
  isplitl [HO]; · iexists _; iexact HO
  isplitl [Hpay]; · iexact Hpay
  iexact Hz

/-! ## Copies -/

/-- An element of a view written with another view's contents holds what the other view's element does. -/
theorem landing_at {sp sp' : Space} {s : Shape} {e : EltTy} {Val : EltTy → Type} (v : View sig .tc sp s e) (v' : View sig .tc sp' s e)
    (f : v.ty.Contents Val) (g : v'.ty.Contents Val) (y : s.Idx) :
    v.write Val f (v'.read Val g) Finset.univ (v.emb y) = cast (congrArg Val v.elt_eq.symm) (cast (congrArg Val v'.elt_eq) (g (v'.emb y))) :=
  View.write_emb_of_mem f _ (Finset.mem_univ y)

theorem landing_acc (b : Fin 8) {off : Fin 4 → ℕ} (h : off = ![b.val, 0, 0, 0]) (inb inb') (f g : S8x8x16x128.Idx → Elt F .bf16)
    (x : S8x8x16x128.Idx) (hx : (x 0).val = b.val) :
    (raccM off inb).view.write (Elt F) f ((accM off inb').view.read (Elt F) g) Finset.univ x = g x := by
  have hm : x ∈ (raccM off inb).view.set := by rw [raccM_set b h]; exact mem_slotA.mpr hx
  obtain ⟨y, -, rfl⟩ := Finset.mem_map.mp hm
  exact landing_at (Val := Elt F) (raccM off inb).view (accM off inb').view f g y

theorem landing_ml (b : Fin 8) {off : Fin 4 → ℕ} (h : off = ![b.val, 0, 0, 0]) (inb inb') (f g : S8x2x16x8.Idx → Elt F .f32)
    (x : S8x2x16x8.Idx) (hx : (x 0).val = b.val) :
    (rmlM off inb).view.write (Elt F) f ((mlM off inb').view.read (Elt F) g) Finset.univ x = g x := by
  have hm : x ∈ (rmlM off inb).view.set := by rw [rmlM_set b h]; exact mem_slotM.mpr hx
  obtain ⟨y, -, rfl⟩ := Finset.mem_map.mp hm
  exact landing_at (Val := Elt F) (rmlM off inb).view (mlM off inb').view f g y

/-- The landed accumulator of batch `b` is the payload of the partner's receive cell. -/
theorem landed_acc (c : Dev nD) (b : Fin 8) {off : Fin 4 → ℕ} (ho : off = ![b.val, 0, 0, 0]) (inb inb') (f f' : S8x8x16x128.Idx → Elt F .bf16)
    (hf : ∀ x, (x 0).val = b.val → f x = accF m c x) :
    raccS (peer c) b ((raccM off inb).view.write (Elt F) f' ((accM off inb').view.read (Elt F) f) Finset.univ)
      = (xPay m (peer c) true 0 b : sProp 𝕄) := by
  refine Eq.trans (raccS_congr (peer c) b (g := accF m c) fun x hx => (landing_acc b ho inb inb' f' f x hx).trans (hf x hx)) ?_
  show _ = raccS (peer c) b (accF m (peer (peer c)))
  rw [peer_peer]

/-- The landed statistics of batch `b` are the payload of the partner's receive cell. -/
theorem landed_ml (c : Dev nD) (b : Fin 8) {off : Fin 4 → ℕ} (ho : off = ![b.val, 0, 0, 0]) (inb inb') (f f' : S8x2x16x8.Idx → Elt F .f32)
    (hf : ∀ x, (x 0).val = b.val → f x = mlF m c x) :
    rmlS (peer c) b ((rmlM off inb).view.write (Elt F) f' ((mlM off inb').view.read (Elt F) f) Finset.univ)
      = (xPay m (peer c) true 1 b : sProp 𝕄) := by
  refine Eq.trans (rmlS_congr (peer c) b (g := mlF m c) fun x hx => (landing_ml b ho inb inb' f' f x hx).trans (hf x hx)) ?_
  show _ = rmlS (peer c) b (mlF m (peer (peer c)))
  rw [peer_peer]

/-- The accumulator's copy of batch `b` to the partner. -/
theorem wp_send_acc (K : Dev nD × CK → ℕ) (c n : Dev nD) (hn : n = peer c) (b : Fin 8) {off : Fin 4 → ℕ} (ho : off = ![b.val, 0, 0, 0]) (inb inb')
    {sS sR : DmaSem sig} (hS : sS = xsem false 0 b) (hR : sR = xsem true 0 b)
    (f f' : S8x8x16x128.Idx → Elt F .bf16) (hf : ∀ x, (x 0).val = b.val → f x = accF m c x) (O : CellTallies nD τ sig Unit)
    {hsc : (raccM off inb : Memref sig (Dev.tc n : Thread nD τ).2.kind .vmem S8x16x128 .bf16).view.ref.isScScratch = false}
    {hsrc : (accM off inb').view.WordExact} {hdst : (raccM off inb).view.WordExact}
    {hsem : DmaTarget.Typed .vmem (.dma sR) (.remote (Dev.tc n : Thread nD τ) (raccM off inb) (.dma sS) hsc)}
    {α : Type} {Q : α → sProp 𝕄} {k : PUnit → Prog (TpuEff nD τ sig (Elt F) Λ₀ .tc) α} :
    iprop(records m K ∗ accS c b f ∗ raccS (peer c) b f' ∗ owing c (O + tallyAt (recvC (peer c) 0 b) () NA)
        ∗ tokAt c (some (false, 0, b)) ∗ tokAt (peer c) (some (true, 0, b)))
      ⊢ iprop(((cred (tallyAt (sendC c 0 b) () NA) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accM off inb') (.remote (Dev.tc n : Thread nD τ) (raccM off inb) (.dma sS) hsc) (.dma sR) hsrc hdst hsem) k) Q) := by
  subst hn hS hR
  have h1 : (accS c b f : sProp 𝕄) = ((accM off inb').view.loc (c : Thread nD τ) ↦[(accM off inb').view.set]{fullShare} f) := by
    rw [accM_set b ho]; rfl
  have h2 : ∀ g, (raccS (peer c) b g : sProp 𝕄) = ((raccM off inb).view.loc (peer c : Thread nD τ) ↦[(raccM off inb).view.set]{fullShare} g) := fun g => by
    rw [raccM_set b ho]; rfl
  have h3 : (accS c b f : sProp 𝕄) = xPay m c false 0 b := accS_congr c b hf
  have h4 := landed_acc m c b ho inb inb' f f' hf
  rw [h1] at h3
  rw [h2] at h4
  unfold owing
  iintro ⟨#HR, Hs, Hd, ⟨%W, HO⟩, Ht, Ht'⟩ Hk
  iapply (Rounds.wp_send_pointsTo 𝒱₀ ER (Rd m) (c : Thread nD τ) none (κ₁ := K (c, some (false, 0, b))) (κ₂ := K (peer c, some (true, 0, b)))
    (c' := (peer c : Thread nD τ)) (src := accM off inb') (dst := raccM off inb) (hsc := hsc) (hsrc := hsrc) (hdst := hdst) (hsem := hsem)
    (sS := .dma (xsem false 0 b)) (sem := .dma (xsem true 0 b)) (k := k) (q := fullShare) (fs := f) (r₁ := 0) (r₂ := 0) (d₁ := ()) (d₂ := ()) (fd := f')
    (duty_mem m c (some (false, 0, b))) (duty_mem m (peer c) (some (true, 0, b)))
    () () NA (raccM_credit inb) (amount_cell m c (some (false, 0, b)) ()) (amount_cell m (peer c) (some (true, 0, b)) ()) O rfl (W := W)
    (Entails.of_eq (h3.trans (payload_cell m c (some (false, 0, b)) ()).symm))
    (Entails.of_eq (h4.trans (payload_cell m (peer c) (some (true, 0, b)) ()).symm))) $$ [Hs Hd HO Ht Ht']
  · isplitr; · iapply (records_inv m K c (some (false, 0, b))); iexact HR
    isplitr; · iapply (records_inv m K (peer c) (some (true, 0, b))); iexact HR
    isplitl [Hs]; · iapply (Entails.of_eq h1); iexact Hs
    isplitl [Hd]; · iapply (Entails.of_eq (h2 f')); iexact Hd
    isplitl [HO]; · iexact HO
    isplitl [Ht]; · iexact Ht
    isplitr; · iapply (records_reached m K c (some (false, 0, b))); iexact HR
    isplitl [Ht']; · iexact Ht'
    iapply (records_reached m K (peer c) (some (true, 0, b))); iexact HR
  iintro ⟨Hc, HO⟩
  iapply Hk
  isplitl [Hc]; · iexact Hc
  iexists W; iexact HO

/-- The statistics' copy of batch `b` to the partner. -/
theorem wp_send_ml (K : Dev nD × CK → ℕ) (c n : Dev nD) (hn : n = peer c) (b : Fin 8) {off : Fin 4 → ℕ} (ho : off = ![b.val, 0, 0, 0]) (inb inb')
    {sS sR : DmaSem sig} (hS : sS = xsem false 1 b) (hR : sR = xsem true 1 b)
    (f f' : S8x2x16x8.Idx → Elt F .f32) (hf : ∀ x, (x 0).val = b.val → f x = mlF m c x) (O : CellTallies nD τ sig Unit)
    {hsc : (rmlM off inb : Memref sig (Dev.tc n : Thread nD τ).2.kind .vmem S2x16x8 .f32).view.ref.isScScratch = false}
    {hsrc : (mlM off inb').view.WordExact} {hdst : (rmlM off inb).view.WordExact}
    {hsem : DmaTarget.Typed .vmem (.dma sR) (.remote (Dev.tc n : Thread nD τ) (rmlM off inb) (.dma sS) hsc)}
    {α : Type} {Q : α → sProp 𝕄} {k : PUnit → Prog (TpuEff nD τ sig (Elt F) Λ₀ .tc) α} :
    iprop(records m K ∗ mlS c b f ∗ rmlS (peer c) b f' ∗ owing c (O + tallyAt (recvC (peer c) 1 b) () NM)
        ∗ tokAt c (some (false, 1, b)) ∗ tokAt (peer c) (some (true, 1, b)))
      ⊢ iprop(((cred (tallyAt (sendC c 1 b) () NM) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mlM off inb') (.remote (Dev.tc n : Thread nD τ) (rmlM off inb) (.dma sS) hsc) (.dma sR) hsrc hdst hsem) k) Q) := by
  subst hn hS hR
  have h1 : (mlS c b f : sProp 𝕄) = ((mlM off inb').view.loc (c : Thread nD τ) ↦[(mlM off inb').view.set]{fullShare} f) := by
    rw [mlM_set b ho]; rfl
  have h2 : ∀ g, (rmlS (peer c) b g : sProp 𝕄) = ((rmlM off inb).view.loc (peer c : Thread nD τ) ↦[(rmlM off inb).view.set]{fullShare} g) := fun g => by
    rw [rmlM_set b ho]; rfl
  have h3 : (mlS c b f : sProp 𝕄) = xPay m c false 1 b := mlS_congr c b hf
  have h4 := landed_ml m c b ho inb inb' f f' hf
  rw [h1] at h3
  rw [h2] at h4
  unfold owing
  iintro ⟨#HR, Hs, Hd, ⟨%W, HO⟩, Ht, Ht'⟩ Hk
  iapply (Rounds.wp_send_pointsTo 𝒱₀ ER (Rd m) (c : Thread nD τ) none (κ₁ := K (c, some (false, 1, b))) (κ₂ := K (peer c, some (true, 1, b)))
    (c' := (peer c : Thread nD τ)) (src := mlM off inb') (dst := rmlM off inb) (hsc := hsc) (hsrc := hsrc) (hdst := hdst) (hsem := hsem)
    (sS := .dma (xsem false 1 b)) (sem := .dma (xsem true 1 b)) (k := k) (q := fullShare) (fs := f) (r₁ := 0) (r₂ := 0) (d₁ := ()) (d₂ := ()) (fd := f')
    (duty_mem m c (some (false, 1, b))) (duty_mem m (peer c) (some (true, 1, b)))
    () () NM (rmlM_credit inb) (amount_cell m c (some (false, 1, b)) ()) (amount_cell m (peer c) (some (true, 1, b)) ()) O rfl (W := W)
    (Entails.of_eq (h3.trans (payload_cell m c (some (false, 1, b)) ()).symm))
    (Entails.of_eq (h4.trans (payload_cell m (peer c) (some (true, 1, b)) ()).symm))) $$ [Hs Hd HO Ht Ht']
  · isplitr; · iapply (records_inv m K c (some (false, 1, b))); iexact HR
    isplitr; · iapply (records_inv m K (peer c) (some (true, 1, b))); iexact HR
    isplitl [Hs]; · iapply (Entails.of_eq h1); iexact Hs
    isplitl [Hd]; · iapply (Entails.of_eq (h2 f')); iexact Hd
    isplitl [HO]; · iexact HO
    isplitl [Ht]; · iexact Ht
    isplitr; · iapply (records_reached m K c (some (false, 1, b))); iexact HR
    isplitl [Ht']; · iexact Ht'
    iapply (records_reached m K (peer c) (some (true, 1, b))); iexact HR
  iintro ⟨Hc, HO⟩
  iapply Hk
  isplitl [Hc]; · iexact Hc
  iexists W; iexact HO

/-! ## The handshake -/

/-- A device's scratch is its own slots and its landing slots. -/
theorem scratch_split (c : Dev nD) : (scratch c : sProp 𝕄)
    = iprop((bigSep Finset.univ fun b : Fin 8 => iprop((∃ f, accS c b f) ∗ (∃ f, mlS c b f)))
        ∗ bigSep Finset.univ fun b : Fin 8 => iprop((∃ f, raccS c b f) ∗ (∃ f, rmlS c b f))) := by
  unfold scratch
  rw [← bigSep_sep']
  exact bigSep_congr fun b _ => equiv_iff.mp ⟨BI.sep_assoc', BI.sep_assoc⟩

/-- A batch's own slots, the partner's landing slots, its duties and its ticket make it fresh. -/
theorem fresh_intro (c : Dev nD) (b : Fin 8) :
    (iprop(((∃ f, accS c b f) ∗ (∃ f, mlS c b f)) ∗ ((∃ f, raccS (peer c) b f) ∗ (∃ f, rmlS (peer c) b f)) ∗ toksB c b ∗ ticket c b) : sProp 𝕄)
      ⊢ slotSt m c 0 b := by
  rw [show slotSt m c 0 b = fresh c b from if_pos (Nat.zero_le _)]
  unfold fresh pend
  iintro ⟨⟨H1, H2⟩, ⟨H3, H4⟩, H5, H6⟩
  isplitl [H1]; · iexact H1
  isplitl [H2]; · iexact H2
  isplitl [H3]; · iexact H3
  isplitl [H4]; · iexact H4
  isplitl [H5] <;> iassumption

/-- Every batch is fresh once the landing slots are exchanged. -/
theorem fresh_all (c : Dev nD) :
    (iprop((bigSep Finset.univ fun b : Fin 8 => iprop((∃ f, accS c b f) ∗ (∃ f, mlS c b f))) ∗ barPay c
        ∗ bigSep Finset.univ fun b : Fin 8 => iprop(toksB c b ∗ ticket c b)) : sProp 𝕄) ⊢ bigSep Finset.univ (slotSt m c 0) := by
  unfold barPay
  rw [← bigSep_sep', ← bigSep_sep']
  exact bigSep_mono fun b _ => fresh_intro m c b

/-- The signal to the partner and the wait for its own: the landing slots exchanged, the barrier's cell closed. -/
theorem wp_handshake (c n : Dev nD) (hn : n = peer c)
    {α : Type} {Q : α → sProp 𝕄} {k : PUnit → Prog (TpuEff nD τ sig (Elt F) Λ₀ .tc) α} :
    iprop(start m c ∗ scratch c ∗ owing c (O₀ c))
      ⊢ iprop(((running m c 0 ∗ owing c (owedT c 0)) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS 1) fun _ => .op (.semWait barS 1) k) Q) := by
  subst hn
  rw [scratch_split]
  unfold start owing
  iintro ⟨⟨⟨%K, #HR⟩, #Hlev, Ht, Hc, Hat, Hb⟩, ⟨Hown, Hland⟩, ⟨%W, HO⟩⟩ Hk
  iapply (Rounds.wp_signal 𝒱₀ ER (Rd m) (c : Thread nD τ) none (dst := (peer c : Thread nD τ)) (κ := K (peer c, none))
      (d := ()) (duty_mem m (peer c) none) (amount_cell m (peer c) none ()) () (owedT c 0) rfl) $$ [HO Ht Hland]
  · isplitr; · iapply (records_inv m K (peer c) none); iexact HR
    isplitl [HO]; · iexact HO
    isplitl [Ht]; · iexact Ht
    isplitl [Hland]
    · iapply (show barPay (peer c) ⊢ (Rd (F := F) m).payload ((peer c : Thread nD τ), SemLoc.reg barS) 0 () from Entails.of_eq (payload_cell m (peer c) none ()).symm)
      unfold barPay
      rw [peer_peer]
      iexact Hland
    iapply (records_reached m K (peer c) none); iexact HR
  iintro HO
  iapply (Rounds.wp_wait_rest_token 𝒱₀ ER (Rd m) (c : Thread nD τ) none (κ := K (c, none))
      (wpE_semWait_eq 𝒱₀ (c : Thread nD τ) none Set.univ) (Set.mem_univ _) () (O := owedT c 0) (W := W) (R := 0) (m := 0) (T := ∅)
      (by rw [Nat.zero_add]; exact (expect_cell m c none).symm)) $$ [Hc HO Hat]
  · isplitr; · iapply (records_inv m K c none); iexact HR
    isplitl [Hc]; · iexact Hc
    isplitl [HO]; · iexact HO
    isplitr; · iapply (mayWait_T c (.reg barS) 0 1 (lv_bar c).le (by decide)); iexact Hlev
    iexact Hat
  iintro ⟨HO, Hat, -, Hpay⟩
  ihave Hpay := (show (bigSep ((Rd (F := F) m).duties ((c : Thread nD τ), SemLoc.reg barS) 0 \ ∅) fun d => (Rd (F := F) m).payload ((c : Thread nD τ), SemLoc.reg barS) 0 d)
      ⊢ barPay c from Entails.of_eq (rest_cell m c none)) $$ Hpay
  imod (Rounds.cell_close ER (Rd m) (Set.mem_univ (K (c, none))) (fun h => h) (R := 0 + 1) (duties_later m (barC c))) $$ [Hat] with Hz
  · isplitr; · iapply (records_inv m K c none); iexact HR
    iexact Hat
  iapply Hk
  isplitr [HO]
  · unfold running slots
    isplitr; · iexists K; iexact HR
    isplitr; · iexact Hlev
    isplitl [Hz]; · iexact Hz
    iapply (fresh_all m c)
    isplitl [Hown]; · iexact Hown
    isplitl [Hpay]; · iexact Hpay
    iexact Hb
  iexists _; iexact HO

end Cert.KernelIdeal.Run

end
-- ==== Proof.Moves.lean ====
/-
# 01_k — `Moves`: the segments of a grid point

What each segment of the body does to a batch's slot: the stores of a half, the two sends, the four waits, the
combination of two devices' halves, and the loads and stores of the staging buffers.
-/
module

public import proofs.«01_k».proof.Proof.Ops

@[expose] public section

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## Staging buffers -/

/-- A load of all of a whole memref is its contents. -/
theorem whole_readAt {sp : Space} {s : Shape} {e : EltTy} (M : Memref sig .tc sp s e) (hM : M.IsWhole) {off : Fin s.rank → ℕ} (hz : off = fun _ => 0) (inb)
    (f : M.view.ty.Contents (Elt F)) : M.view.readAt (Elt F) (Rect.unit (s := s) off s.size inb).toLoadRect f = M.view.read (Elt F) f := by
  obtain ⟨b, rfl, rfl, rfl, h⟩ := hM
  cases h
  exact Memref.readAt_unit_zero (Elt F) b hz _ f

/-- What was stored to all of a whole memref is read back. -/
theorem whole_write {sp : Space} {s : Shape} {e : EltTy} (M : Memref sig .tc sp s e) (hM : M.IsWhole) {off : Fin s.rank → ℕ} (hz : off = fun _ => 0) (inb)
    (f : M.view.ty.Contents (Elt F)) (w : s.Idx → Elt F e) :
    M.view.read (Elt F) ((M.access (Rect.unit (s := s) off s.size inb)).write (Elt F) f w Finset.univ) = w := by
  obtain ⟨b, rfl, rfl, rfl, h⟩ := hM
  cases h
  exact (View.read_whole b _).trans (Memref.write_access_unit_zero_univ (Elt F) b hz _ f w)

/-- A load of a whole staging buffer reads what it holds. -/
theorem wp_load_staged {s : Shape} {e : EltTy} (c : Dev nD) (M : Memref sig .tc .vmem s e) (hM : M.IsWhole) {off : Fin s.rank → ℕ} (hz : off = fun _ => 0) (inb) {hl}
    (X : s.Idx → Elt F e) {α : Type} {Q : α → sProp 𝕄} {k : (s.Idx → Elt F e) → Prog (TpuEff nD τ sig (Elt F) Λ₀ .tc) α} :
    owns (c : Thread nD τ) M fullShare X
      ⊢ iprop((owns (c : Thread nD τ) M fullShare X -∗ wp frame (wpE (defs₀ (F := F)) 𝒱₀ (c : Thread nD τ) none) Set.univ (k X) Q)
          -∗ wp frame (wpE (defs₀ (F := F)) 𝒱₀ (c : Thread nD τ) none) Set.univ (.op (.load M (Rect.unit (s := s) off s.size inb).toLoadRect hl) k) Q) := by
  unfold owns
  iintro ⟨%f, %hf, H⟩ Hk
  iapply (wp_load 𝒱₀ (c : Thread nD τ) none Set.univ (m := M) (by rw [hM.set_eq_univ]; exact Finset.subset_univ _)) $$ H
  rw [whole_readAt M hM hz inb f, hf]
  iintro H
  iapply Hk
  iexists f
  isplitr; · ipureintro; exact hf
  iexact H

/-- A store to a whole staging buffer leaves what was stored. -/
theorem wp_store_staged {s : Shape} {e : EltTy} (c : Dev nD) (M : Memref sig .tc .vmem s e) (hM : M.IsWhole) {off : Fin s.rank → ℕ} (hz : off = fun _ => 0) (inb) {hx hm}
    (X w : s.Idx → Elt F e) {α : Type} {Q : α → sProp 𝕄} {k : PUnit → Prog (TpuEff nD τ sig (Elt F) Λ₀ .tc) α} :
    owns (c : Thread nD τ) M fullShare X
      ⊢ iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit (s := s) off s.size inb) w Finset.univ hx hm) k) Q) := by
  unfold owns
  iintro ⟨%f, %hf, H⟩ Hk
  iapply (wp_store 𝒱₀ (c : Thread nD τ) none Set.univ (m := M) (r := Rect.unit (s := s) off s.size inb) (Mk := Finset.univ)
    (by rw [hM.set_eq_univ]; exact Finset.subset_univ _)) $$ H
  iintro H
  iapply Hk
  iexists _
  isplitr; swap
  · iexact H
  · ipureintro; exact whole_write M hM hz inb f w

/-! ## Loads of the slots -/

/-- The landing accumulator's load, as `load_acc`. -/
theorem load_racc (b : Fin 8) {off : Fin 4 → ℕ} (h : off = ![b.val, 0, 0, 0]) (inb) (f : S8x8x16x128.Idx → Elt F .bf16) :
    (Memref.whole cc0_scratch2 : Memref sig .tc .vmem S8x8x16x128 .bf16).view.readAt (Elt F) (Rect.unit (s := S8x8x16x128) off S1x8x16x128.size inb).toLoadRect f = cutA f b :=
  load_acc b h inb f
/-- The landing statistics' load, as `load_ml`. -/
theorem load_rml (b : Fin 8) (s : Fin 2) {off : Fin 4 → ℕ} (h : off = ![b.val, s.val, 0, 0]) (inb) (f : S8x2x16x8.Idx → Elt F .f32) :
    (Memref.whole cc0_scratch3 : Memref sig .tc .vmem S8x2x16x8 .f32).view.readAt (Elt F) (Rect.unit (s := S8x2x16x8) off S1x1x16x8.size inb).toLoadRect f = cutM f b s :=
  load_ml b s h inb f

/-- Every element of a whole buffer is the view's own. -/
theorem setOn_whole (r : Ref sig .tc) (S : Finset r.ty.Idx) : (Memref.whole r : Memref sig .tc _ _ _).view.setOn S = S := Finset.map_refl

/-- A load within batch `b`'s slot of the accumulator. -/
theorem wp_load_acc (c : Dev nD) (b : Fin 8) (r : LoadRect S8x8x16x128) (hr : r.set ⊆ slotA b) {hl} (f : S8x8x16x128.Idx → Elt F .bf16)
    {α : Type} {Q : α → sProp 𝕄} {k : (r.shape.Idx → Elt F .bf16) → Prog (TpuEff nD τ sig (Elt F) Λ₀ .tc) α} :
    accS c b f ⊢ iprop((accS c b f -∗ wp frame (wpE (defs₀ (F := F)) 𝒱₀ (c : Thread nD τ) none) Set.univ
        (k ((Memref.whole cc0_scratch0 : Memref sig .tc .vmem S8x8x16x128 .bf16).view.readAt (Elt F) r f)) Q)
      -∗ wp frame (wpE (defs₀ (F := F)) 𝒱₀ (c : Thread nD τ) none) Set.univ (.op (.load (Memref.whole cc0_scratch0 : Memref sig .tc .vmem S8x8x16x128 .bf16) r hl) k) Q) :=
  wp_load 𝒱₀ (c : Thread nD τ) none Set.univ (m := Memref.whole cc0_scratch0) (S := slotA b) (q := fullShare) (f := f) ((setOn_whole cc0_scratch0 r.set).trans_subset hr)

/-- A load within batch `b`'s slot of the statistics. -/
theorem wp_load_ml (c : Dev nD) (b : Fin 8) (r : LoadRect S8x2x16x8) (hr : r.set ⊆ slotM b) {hl} (f : S8x2x16x8.Idx → Elt F .f32)
    {α : Type} {Q : α → sProp 𝕄} {k : (r.shape.Idx → Elt F .f32) → Prog (TpuEff nD τ sig (Elt F) Λ₀ .tc) α} :
    mlS c b f ⊢ iprop((mlS c b f -∗ wp frame (wpE (defs₀ (F := F)) 𝒱₀ (c : Thread nD τ) none) Set.univ
        (k ((Memref.whole cc0_scratch1 : Memref sig .tc .vmem S8x2x16x8 .f32).view.readAt (Elt F) r f)) Q)
      -∗ wp frame (wpE (defs₀ (F := F)) 𝒱₀ (c : Thread nD τ) none) Set.univ (.op (.load (Memref.whole cc0_scratch1 : Memref sig .tc .vmem S8x2x16x8 .f32) r hl) k) Q) :=
  wp_load 𝒱₀ (c : Thread nD τ) none Set.univ (m := Memref.whole cc0_scratch1) (S := slotM b) (q := fullShare) (f := f) ((setOn_whole cc0_scratch1 r.set).trans_subset hr)

/-- A load within batch `b`'s slot of the landing accumulator. -/
theorem wp_load_racc (c : Dev nD) (b : Fin 8) (r : LoadRect S8x8x16x128) (hr : r.set ⊆ slotA b) {hl} (f : S8x8x16x128.Idx → Elt F .bf16)
    {α : Type} {Q : α → sProp 𝕄} {k : (r.shape.Idx → Elt F .bf16) → Prog (TpuEff nD τ sig (Elt F) Λ₀ .tc) α} :
    raccS c b f ⊢ iprop((raccS c b f -∗ wp frame (wpE (defs₀ (F := F)) 𝒱₀ (c : Thread nD τ) none) Set.univ
        (k ((Memref.whole cc0_scratch2 : Memref sig .tc .vmem S8x8x16x128 .bf16).view.readAt (Elt F) r f)) Q)
      -∗ wp frame (wpE (defs₀ (F := F)) 𝒱₀ (c : Thread nD τ) none) Set.univ (.op (.load (Memref.whole cc0_scratch2 : Memref sig .tc .vmem S8x8x16x128 .bf16) r hl) k) Q) :=
  wp_load 𝒱₀ (c : Thread nD τ) none Set.univ (m := Memref.whole cc0_scratch2) (S := slotA b) (q := fullShare) (f := f) ((setOn_whole cc0_scratch2 r.set).trans_subset hr)

/-- A load within batch `b`'s slot of the landing statistics. -/
theorem wp_load_rml (c : Dev nD) (b : Fin 8) (r : LoadRect S8x2x16x8) (hr : r.set ⊆ slotM b) {hl} (f : S8x2x16x8.Idx → Elt F .f32)
    {α : Type} {Q : α → sProp 𝕄} {k : (r.shape.Idx → Elt F .f32) → Prog (TpuEff nD τ sig (Elt F) Λ₀ .tc) α} :
    rmlS c b f ⊢ iprop((rmlS c b f -∗ wp frame (wpE (defs₀ (F := F)) 𝒱₀ (c : Thread nD τ) none) Set.univ
        (k ((Memref.whole cc0_scratch3 : Memref sig .tc .vmem S8x2x16x8 .f32).view.readAt (Elt F) r f)) Q)
      -∗ wp frame (wpE (defs₀ (F := F)) 𝒱₀ (c : Thread nD τ) none) Set.univ (.op (.load (Memref.whole cc0_scratch3 : Memref sig .tc .vmem S8x2x16x8 .f32) r hl) k) Q) :=
  wp_load 𝒱₀ (c : Thread nD τ) none Set.univ (m := Memref.whole cc0_scratch3) (S := slotM b) (q := fullShare) (f := f) ((setOn_whole cc0_scratch3 r.set).trans_subset hr)

/-- A store within batch `b`'s slot of the accumulator. -/
theorem wp_store_acc (c : Dev nD) (b : Fin 8) (r : Rect S8x8x16x128) (hr : r.set ⊆ slotA b) {hx hm} (f : S8x8x16x128.Idx → Elt F .bf16) (w : r.shape.Idx → Elt F .bf16)
    {α : Type} {Q : α → sProp 𝕄} {k : PUnit → Prog (TpuEff nD τ sig (Elt F) Λ₀ .tc) α} :
    accS c b f ⊢ iprop((accS c b (((Memref.whole cc0_scratch0 : Memref sig .tc .vmem S8x8x16x128 .bf16).access r).write (Elt F) f w Finset.univ)
        -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch0 : Memref sig .tc .vmem S8x8x16x128 .bf16) r w Finset.univ hx hm) k) Q) :=
  wp_store 𝒱₀ (c : Thread nD τ) none Set.univ (m := Memref.whole cc0_scratch0) (r := r) (Mk := Finset.univ) (S := slotA b) (f := f)
    (by rw [View.setOn_univ, View.set_slice_whole]; exact hr)

/-- A store within batch `b`'s slot of the statistics. -/
theorem wp_store_ml (c : Dev nD) (b : Fin 8) (r : Rect S8x2x16x8) (hr : r.set ⊆ slotM b) {hx hm} (f : S8x2x16x8.Idx → Elt F .f32) (w : r.shape.Idx → Elt F .f32)
    {α : Type} {Q : α → sProp 𝕄} {k : PUnit → Prog (TpuEff nD τ sig (Elt F) Λ₀ .tc) α} :
    mlS c b f ⊢ iprop((mlS c b (((Memref.whole cc0_scratch1 : Memref sig .tc .vmem S8x2x16x8 .f32).access r).write (Elt F) f w Finset.univ)
        -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch1 : Memref sig .tc .vmem S8x2x16x8 .f32) r w Finset.univ hx hm) k) Q) :=
  wp_store 𝒱₀ (c : Thread nD τ) none Set.univ (m := Memref.whole cc0_scratch1) (r := r) (Mk := Finset.univ) (S := slotM b) (f := f)
    (by rw [View.setOn_univ, View.set_slice_whole]; exact hr)

/-! ## Stores of a half -/

/-- The load and the store of one half of batch `b`'s accumulator: the half is the partial result's. -/
theorem wp_put_acc (c : Dev nD) (b : Fin 8) (h : Fin 2) {off : Fin 4 → ℕ} (ho : off = ![b.val, 0, 8 * h.val, 0]) (inb) {hl hx hm}
    (f : S8x8x16x128.Idx → Elt F .bf16) (w : Vec F S1x8x8x128 .bf16) (hw : w = pvAt m c (pt b h))
    {α : Type} {Q : α → sProp 𝕄} {k : PUnit → Prog (TpuEff nD τ sig (Elt F) Λ₀ .tc) α} :
    accS c b f ⊢ iprop((∀ g, ⌜∀ x : S8x8x16x128.Idx, (x 0).val = b.val → g x = if hHalf (x 2) = h then accF m c x else f x⌝ -∗ accS c b g
        -∗ wp frame (wpE (defs₀ (F := F)) 𝒱₀ (c : Thread nD τ) none) Set.univ (k ⟨⟩) Q)
      -∗ wp frame (wpE (defs₀ (F := F)) 𝒱₀ (c : Thread nD τ) none) Set.univ
          (.op (.load (Memref.whole cc0_scratch0 : Memref sig .tc .vmem S8x8x16x128 .bf16) (Rect.unit (s := S8x8x16x128) off S1x8x8x128.size inb).toLoadRect hl) fun _ =>
            .op (.store (Memref.whole cc0_scratch0 : Memref sig .tc .vmem S8x8x16x128 .bf16) (Rect.unit (s := S8x8x16x128) off S1x8x8x128.size inb) w Finset.univ hx hm) k) Q) := by
  have hsub : (Rect.unit (s := S8x8x16x128) off S1x8x8x128.size inb).set ⊆ slotA b := rectA_subset b (congrFun ho 0) rfl inb
  iintro H Hk
  iapply (wp_load_acc c b _ hsub f) $$ H
  iintro H
  iapply (wp_store_acc c b _ hsub _ _) $$ H
  iintro H
  iapply Hk $$ %_ [] H
  ipureintro
  intro x hx
  rw [store_acc b h ho inb f w x hx]
  have hb : (x 0 : Fin 8) = b := Fin.ext hx
  by_cases hh : hHalf (x 2) = h
  · rw [if_pos hh, if_pos hh, hw]
    unfold accF
    rw [hh, show pt (x 0) h = pt b h from congrArg (pt · h) hb]
  · rw [if_neg hh, if_neg hh]

/-- The loads and the stores of one half of batch `b`'s statistics: the half is the partial result's. -/
theorem wp_put_ml (c : Dev nD) (b : Fin 8) (h : Fin 2) {off off' : Fin 4 → ℕ} (ho : off = ![b.val, 0, 8 * h.val, 0]) (ho' : off' = ![b.val, 1, 8 * h.val, 0])
    (inb inb') {hl hx hm hl' hx' hm'}
    (f : S8x2x16x8.Idx → Elt F .f32) (w w' : Vec F S1x1x8x8 .f32) (hw : w = mAt m c (pt b h)) (hw' : w' = lAt m c (pt b h))
    {α : Type} {Q : α → sProp 𝕄} {k : PUnit → Prog (TpuEff nD τ sig (Elt F) Λ₀ .tc) α} :
    mlS c b f ⊢ iprop((∀ g, ⌜∀ x : S8x2x16x8.Idx, (x 0).val = b.val → g x = if hHalf (x 2) = h then mlF m c x else f x⌝ -∗ mlS c b g
        -∗ wp frame (wpE (defs₀ (F := F)) 𝒱₀ (c : Thread nD τ) none) Set.univ (k ⟨⟩) Q)
      -∗ wp frame (wpE (defs₀ (F := F)) 𝒱₀ (c : Thread nD τ) none) Set.univ
          (.op (.load (Memref.whole cc0_scratch1 : Memref sig .tc .vmem S8x2x16x8 .f32) (Rect.unit (s := S8x2x16x8) off S1x1x8x8.size inb).toLoadRect hl) fun _ =>
            .op (.store (Memref.whole cc0_scratch1 : Memref sig .tc .vmem S8x2x16x8 .f32) (Rect.unit (s := S8x2x16x8) off S1x1x8x8.size inb) w Finset.univ hx hm) fun _ =>
            .op (.load (Memref.whole cc0_scratch1 : Memref sig .tc .vmem S8x2x16x8 .f32) (Rect.unit (s := S8x2x16x8) off' S1x1x8x8.size inb').toLoadRect hl') fun _ =>
            .op (.store (Memref.whole cc0_scratch1 : Memref sig .tc .vmem S8x2x16x8 .f32) (Rect.unit (s := S8x2x16x8) off' S1x1x8x8.size inb') w' Finset.univ hx' hm') k) Q) := by
  have hsub : (Rect.unit (s := S8x2x16x8) off S1x1x8x8.size inb).set ⊆ slotM b := rectM_subset b (congrFun ho 0) rfl inb
  have hsub' : (Rect.unit (s := S8x2x16x8) off' S1x1x8x8.size inb').set ⊆ slotM b := rectM_subset b (congrFun ho' 0) rfl inb'
  iintro H Hk
  iapply (wp_load_ml c b _ hsub _) $$ H
  iintro H
  iapply (wp_store_ml c b _ hsub _ _) $$ H
  iintro H
  iapply (wp_load_ml c b _ hsub' _) $$ H
  iintro H
  iapply (wp_store_ml c b _ hsub' _ _) $$ H
  iintro H
  iapply Hk $$ %_ [] H
  ipureintro
  intro x hx
  have hb : (x 0 : Fin 8) = b := Fin.ext hx
  have h1 : (x 1).val < 2 := (x 1).isLt
  rw [store_ml b 1 h ho' inb' _ w' x hx, store_ml b 0 h ho inb f w x hx]
  by_cases hh : hHalf (x 2) = h
  · rw [if_pos hh]
    unfold mlF
    rw [hh, show pt (x 0) h = pt b h from congrArg (pt · h) hb, hw, hw']
    by_cases h0 : (x 1).val = 0
    · rw [if_neg (fun e => absurd e.1 (by rw [h0]; decide)), if_pos ⟨h0, rfl⟩, if_pos h0]
    · rw [if_pos ⟨show (x 1).val = 1 by omega, rfl⟩, if_neg h0]
  · rw [if_neg hh, if_neg (fun e => hh e.2), if_neg (fun e => hh e.2)]

end Cert.KernelIdeal.Run

end
-- ==== Proof.Segments.lean ====
/-
# 01_k — `Segments`: a batch's slot through the body's segments

`wp_low` stores the first half, `wp_high` the second and sends both slots, `wp_collect` waits for the four counters,
`wp_merge` combines the two devices' halves into the output's staging buffer.
-/
module

public import proofs.«01_k».proof.Proof.Moves

@[expose] public section

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

abbrev accW : Memref sig .tc .vmem S8x8x16x128 .bf16 := Memref.whole cc0_scratch0
abbrev mlW : Memref sig .tc .vmem S8x2x16x8 .f32 := Memref.whole cc0_scratch1
abbrev raccW : Memref sig .tc .vmem S8x8x16x128 .bf16 := Memref.whole cc0_scratch2
abbrev rmlW : Memref sig .tc .vmem S8x2x16x8 .f32 := Memref.whole cc0_scratch3

/-- The stores of the first eight heads of batch `b`. -/
theorem wp_low (c : Dev nD) (b : Fin 8) {o1 o2 o3 : Fin 4 → ℕ} (h1 : o1 = ![b.val, 0, 0, 0]) (h2 : o2 = ![b.val, 0, 0, 0]) (h3 : o3 = ![b.val, 1, 0, 0])
    (i1 i2 i3) {l1 x1 y1 l2 x2 y2 l3 x3 y3} (w1 : Vec F S1x8x8x128 .bf16) (w2 w3 : Vec F S1x1x8x8 .f32)
    (e1 : w1 = pvAt m c (pt b 0)) (e2 : w2 = mAt m c (pt b 0)) (e3 : w3 = lAt m c (pt b 0))
    {α : Type} {Q : α → sProp 𝕄} {k : PUnit → Prog (TpuEff nD τ sig (Elt F) Λ₀ .tc) α} :
    fresh c b ⊢ iprop((half m c b -∗ wp frame (wpE (defs₀ (F := F)) 𝒱₀ (c : Thread nD τ) none) Set.univ (k ⟨⟩) Q)
      -∗ wp frame (wpE (defs₀ (F := F)) 𝒱₀ (c : Thread nD τ) none) Set.univ
          (.op (.load accW (Rect.unit (s := S8x8x16x128) o1 S1x8x8x128.size i1).toLoadRect l1) fun _ =>
            .op (.store accW (Rect.unit (s := S8x8x16x128) o1 S1x8x8x128.size i1) w1 Finset.univ x1 y1) fun _ =>
            .op (.load mlW (Rect.unit (s := S8x2x16x8) o2 S1x1x8x8.size i2).toLoadRect l2) fun _ =>
            .op (.store mlW (Rect.unit (s := S8x2x16x8) o2 S1x1x8x8.size i2) w2 Finset.univ x2 y2) fun _ =>
            .op (.load mlW (Rect.unit (s := S8x2x16x8) o3 S1x1x8x8.size i3).toLoadRect l3) fun _ =>
            .op (.store mlW (Rect.unit (s := S8x2x16x8) o3 S1x1x8x8.size i3) w3 Finset.univ x3 y3) k) Q) := by
  unfold fresh half
  iintro ⟨⟨%f, Ha⟩, ⟨%g, Hm⟩, Hp⟩ Hk
  iapply (wp_put_acc m c b 0 h1 i1 f w1 e1) $$ Ha
  iintro %f' %hf' Ha
  iapply (wp_put_ml m c b 0 h2 h3 i2 i3 g w2 w3 e2 e3) $$ Hm
  iintro %g' %hg' Hm
  iapply Hk
  isplitl [Ha]
  · iexists f'
    isplitr; · ipureintro; exact fun x hx hh => (hf' x hx).trans (if_pos hh)
    iexact Ha
  isplitl [Hm]
  · iexists g'
    isplitr; · ipureintro; exact fun x hx hh => (hg' x hx).trans (if_pos hh)
    iexact Hm
  iexact Hp

/-- A half that is not the first is the second. -/
theorem half_one {h : Fin 2} (hh : h ≠ 0) : h = 1 := Fin.ext (by have := h.isLt; have : h.val ≠ 0 := fun e => hh (Fin.ext e); show h.val = 1; omega)

/-- The stores of the last eight heads of batch `b`, and the two sends. -/
theorem wp_high (K : Dev nD × CK → ℕ) (c n n' : Dev nD) (hn : n = peer c) (hn' : n' = peer c) (b : Fin 8) {o1 o2 o3 o4 o5 : Fin 4 → ℕ}
    (h1 : o1 = ![b.val, 0, 8, 0]) (h2 : o2 = ![b.val, 0, 8, 0]) (h3 : o3 = ![b.val, 1, 8, 0]) (h4 : o4 = ![b.val, 0, 0, 0]) (h5 : o5 = ![b.val, 0, 0, 0])
    (i1 i2 i3 i4 i4' i5 i5') {l1 x1 y1 l2 x2 y2 l3 x3 y3} {s4 s4' s5 s5' : DmaSem sig}
    (q4 : s4 = xsem false 0 b) (q4' : s4' = xsem true 0 b) (q5 : s5 = xsem false 1 b) (q5' : s5' = xsem true 1 b)
    (w1 : Vec F S1x8x8x128 .bf16) (w2 w3 : Vec F S1x1x8x8 .f32)
    (e1 : w1 = pvAt m c (pt b 1)) (e2 : w2 = mAt m c (pt b 1)) (e3 : w3 = lAt m c (pt b 1))
    {hsc4 : (raccM o4 i4 : Memref sig (Dev.tc n : Thread nD τ).2.kind .vmem S8x16x128 .bf16).view.ref.isScScratch = false}
    {hsrc4 : (accM o4 i4').view.WordExact} {hdst4 : (raccM o4 i4).view.WordExact}
    {hsem4 : DmaTarget.Typed .vmem (.dma s4') (.remote (Dev.tc n : Thread nD τ) (raccM o4 i4) (.dma s4) hsc4)}
    {hsc5 : (rmlM o5 i5 : Memref sig (Dev.tc n' : Thread nD τ).2.kind .vmem S2x16x8 .f32).view.ref.isScScratch = false}
    {hsrc5 : (mlM o5 i5').view.WordExact} {hdst5 : (rmlM o5 i5).view.WordExact}
    {hsem5 : DmaTarget.Typed .vmem (.dma s5') (.remote (Dev.tc n' : Thread nD τ) (rmlM o5 i5) (.dma s5) hsc5)}
    {α : Type} {Q : α → sProp 𝕄} {k : PUnit → Prog (TpuEff nD τ sig (Elt F) Λ₀ .tc) α} :
    iprop(records m K ∗ half m c b ∗ owing c (owedT c (2 * b.val + 1)))
      ⊢ iprop(((flight c b ∗ owing c (owedT c (2 * b.val + 2))) -∗ wp frame (wpE (defs₀ (F := F)) 𝒱₀ (c : Thread nD τ) none) Set.univ (k ⟨⟩) Q)
      -∗ wp frame (wpE (defs₀ (F := F)) 𝒱₀ (c : Thread nD τ) none) Set.univ
          (.op (.load accW (Rect.unit (s := S8x8x16x128) o1 S1x8x8x128.size i1).toLoadRect l1) fun _ =>
            .op (.store accW (Rect.unit (s := S8x8x16x128) o1 S1x8x8x128.size i1) w1 Finset.univ x1 y1) fun _ =>
            .op (.load mlW (Rect.unit (s := S8x2x16x8) o2 S1x1x8x8.size i2).toLoadRect l2) fun _ =>
            .op (.store mlW (Rect.unit (s := S8x2x16x8) o2 S1x1x8x8.size i2) w2 Finset.univ x2 y2) fun _ =>
            .op (.load mlW (Rect.unit (s := S8x2x16x8) o3 S1x1x8x8.size i3).toLoadRect l3) fun _ =>
            .op (.store mlW (Rect.unit (s := S8x2x16x8) o3 S1x1x8x8.size i3) w3 Finset.univ x3 y3) fun _ =>
            .op (.enqueueDma (accM o4 i4') (.remote (Dev.tc n : Thread nD τ) (raccM o4 i4) (.dma s4) hsc4) (.dma s4') hsrc4 hdst4 hsem4) fun _ =>
            .op (.enqueueDma (mlM o5 i5') (.remote (Dev.tc n' : Thread nD τ) (rmlM o5 i5) (.dma s5) hsc5) (.dma s5') hsrc5 hdst5 hsem5) k) Q) := by
  unfold half flight pend toksB
  rw [owedT_odd c b, owedB, ← add_assoc]
  iintro ⟨#HR, ⟨⟨%f, %hf, Ha⟩, ⟨%g, %hg, Hm⟩, ⟨%f₀, Hra⟩, ⟨%g₀, Hrm⟩, ⟨Hs0, Hs1, Hr0, Hr1⟩, Htk⟩, HO⟩ Hk
  iapply (wp_put_acc m c b 1 h1 i1 f w1 e1) $$ Ha
  iintro %f' %hf' Ha
  iapply (wp_put_ml m c b 1 h2 h3 i2 i3 g w2 w3 e2 e3) $$ Hm
  iintro %g' %hg' Hm
  iapply (wp_send_acc m K c n hn b h4 i4 i4' q4 q4' f' f₀ (fun x hx => by
    rw [hf' x hx]
    by_cases hh : hHalf (x 2) = 0
    · rw [if_neg (by rw [hh]; decide), hf x hx hh]
    · rw [if_pos (half_one hh)]) _) $$ [Ha Hra HO Hs0 Hr0]
  · isplitr; · iexact HR
    isplitl [Ha]; · iexact Ha
    isplitl [Hra]; · iexact Hra
    isplitl [HO]; · iexact HO
    isplitl [Hs0] <;> iassumption
  iintro ⟨Hc0, HO⟩
  iapply (wp_send_ml m K c n' hn' b h5 i5 i5' q5 q5' g' g₀ (fun x hx => by
    rw [hg' x hx]
    by_cases hh : hHalf (x 2) = 0
    · rw [if_neg (by rw [hh]; decide), hg x hx hh]
    · rw [if_pos (half_one hh)]) _) $$ [Hm Hrm HO Hs1 Hr1]
  · isplitr; · iexact HR
    isplitl [Hm]; · iexact Hm
    isplitl [Hrm]; · iexact Hrm
    isplitl [HO]; · iexact HO
    isplitl [Hs1] <;> iassumption
  iintro ⟨Hc1, HO⟩
  iapply Hk
  isplitr [HO]
  · isplitl [Hc0]; · iexact Hc0
    isplitl [Hc1]; · iexact Hc1
    iexact Htk
  iexact HO

/-- The four waits of batch `b`: both slots back, both landing slots written, the four cells closed. -/
theorem wp_collect (K : Dev nD × CK → ℕ) (c : Dev nD) (b : Fin 8) (t : ℕ) (ht : 2 * b.val + 1 < t)
    {s1 s2 s3 s4 : DmaSem sig} (q1 : s1 = xsem false 1 b) (q2 : s2 = xsem true 1 b) (q3 : s3 = xsem false 0 b) (q4 : s4 = xsem true 0 b)
    {o1 o2 o3 o4 : Fin 4 → ℕ} (i1 i1' i2 i2' i3 i3' i4 i4') {u1 v1 u2 v2 u3 v3 u4 v4}
    {α : Type} {Q : α → sProp 𝕄} {k : PUnit → Prog (TpuEff nD τ sig (Elt F) Λ₀ .tc) α} :
    iprop(records m K ∗ levAts L lv ∗ flight c b ∗ owing c (owedT c t))
      ⊢ iprop(((finished m c b ∗ owing c (owedT c t)) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 s1 (rmlM o1 i1) (mlM o1 i1') u1 v1) fun _ => .op (.waitDma2 s2 (mlM o2 i2) (rmlM o2 i2') u2 v2) fun _ =>
            .op (.waitDma2 s3 (raccM o3 i3) (accM o3 i3') u3 v3) fun _ => .op (.waitDma2 s4 (accM o4 i4) (raccM o4 i4') u4 v4) k) Q) := by
  unfold flight ticket finished zeros
  iintro ⟨#HR, #Hl, ⟨Hc0, Hc1, Hd0, Hd1, Hp0, Hp1, Hq0, Hq1⟩, HO⟩ Hk
  iapply (wp_wait_x m K c false 1 b q1 (mlM_credit i1') t 0 (lv_send c 1 b).le (by omega)) $$ [Hc1 HO Hp1]
  · isplitr; · iexact HR
    isplitr; · iexact Hl
    isplitl [Hc1]; · iexact Hc1
    isplitl [HO] <;> iassumption
  iintro ⟨HO, Hm, Hz1⟩
  iapply (wp_wait_x m K c true 1 b q2 (rmlM_credit i2') t (2 + b.val) (lv_recv c 1 b).le (by omega)) $$ [Hd1 HO Hq1]
  · isplitr; · iexact HR
    isplitr; · iexact Hl
    isplitl [Hd1]; · iexact Hd1
    isplitl [HO] <;> iassumption
  iintro ⟨HO, Hrm, Hy1⟩
  iapply (wp_wait_x m K c false 0 b q3 (accM_credit i3') t 0 (lv_send c 0 b).le (by omega)) $$ [Hc0 HO Hp0]
  · isplitr; · iexact HR
    isplitr; · iexact Hl
    isplitl [Hc0]; · iexact Hc0
    isplitl [HO] <;> iassumption
  iintro ⟨HO, Ha, Hz0⟩
  iapply (wp_wait_x m K c true 0 b q4 (raccM_credit i4') t (2 + b.val) (lv_recv c 0 b).le (by omega)) $$ [Hd0 HO Hq0]
  · isplitr; · iexact HR
    isplitr; · iexact Hl
    isplitl [Hd0]; · iexact Hd0
    isplitl [HO] <;> iassumption
  iintro ⟨HO, Hra, Hy0⟩
  iapply Hk
  isplitr [HO]
  · isplitl [Ha]; · iapply (show xPay m c false 0 b ⊢ accS c b (accF m c) from .rfl); iexact Ha
    isplitl [Hm]; · iapply (show xPay m c false 1 b ⊢ mlS c b (mlF m c) from .rfl); iexact Hm
    isplitl [Hra]; · iapply (show xPay m c true 0 b ⊢ raccS c b (accF m (peer c)) from .rfl); iexact Hra
    isplitl [Hrm]; · iapply (show xPay m c true 1 b ⊢ rmlS c b (mlF m (peer c)) from .rfl); iexact Hrm
    isplitl [Hz0]; · iexact Hz0
    isplitl [Hz1]; · iexact Hz1
    isplitl [Hy0] <;> iassumption
  iexact HO

theorem zeros4 : (![0, 0, 0, 0] : Fin 4 → ℕ) = fun _ => 0 := funext fun a => by fin_cases a <;> rfl

/-- The loads of both devices' statistics and accumulators of batch `b`, and the store of their combination. -/
theorem wp_merge (c : Dev nD) (b : Fin 8) (M : Memref sig .tc .vmem S1x8x16x128 .f32) (hM : M.IsWhole) (Y : Vec F S1x8x16x128 .f32)
    {o1 o2 o3 o4 o5 o6 : Fin 4 → ℕ} (h1 : o1 = ![b.val, 0, 0, 0]) (h2 : o2 = ![b.val, 0, 0, 0]) (h3 : o3 = ![b.val, 1, 0, 0]) (h4 : o4 = ![b.val, 1, 0, 0])
    (h5 : o5 = ![b.val, 0, 0, 0]) (h6 : o6 = ![b.val, 0, 0, 0]) (i1 i2 i3 i4 i5 i6 i7 i8) {l1 l2 l3 l4 l5 l6 l7 x8 y8}
    (P : Vec F S1x1x16x8 .f32 → Vec F S1x1x16x8 .f32 → Vec F S1x1x16x8 .f32 → Vec F S1x1x16x8 .f32 → Vec F S1x8x16x128 .bf16 → Vec F S1x8x16x128 .bf16 → Vec F S1x8x16x128 .f32)
    (hP : ∀ a a' l l' g g', P a a' l l' g g' = k0_pay7 (k0_pay14 a a' l l') (k0_pay15 a a') (k0_pay16 a a') g g')
    {α : Type} {Q : α → sProp 𝕄} {k : PUnit → Prog (TpuEff nD τ sig (Elt F) Λ₀ .tc) α} :
    iprop(finished m c b ∗ owns (c : Thread nD τ) M fullShare Y)
      ⊢ iprop(((finished m c b ∗ owns (c : Thread nD τ) M fullShare (outB m c b)) -∗ wp frame (wpE (defs₀ (F := F)) 𝒱₀ (c : Thread nD τ) none) Set.univ (k ⟨⟩) Q)
      -∗ wp frame (wpE (defs₀ (F := F)) 𝒱₀ (c : Thread nD τ) none) Set.univ
          (.op (.load mlW (Rect.unit (s := S8x2x16x8) o1 S1x1x16x8.size i1).toLoadRect l1) fun a =>
            .op (.load rmlW (Rect.unit (s := S8x2x16x8) o2 S1x1x16x8.size i2).toLoadRect l2) fun a' =>
            .op (.load mlW (Rect.unit (s := S8x2x16x8) o3 S1x1x16x8.size i3).toLoadRect l3) fun l =>
            .op (.load rmlW (Rect.unit (s := S8x2x16x8) o4 S1x1x16x8.size i4).toLoadRect l4) fun l' =>
            .op (.load accW (Rect.unit (s := S8x8x16x128) o5 S1x8x16x128.size i5).toLoadRect l5) fun g =>
            .op (.load raccW (Rect.unit (s := S8x8x16x128) o6 S1x8x16x128.size i6).toLoadRect l6) fun g' =>
            .op (.load M (Rect.unit (s := S1x8x16x128) ![0, 0, 0, 0] S1x8x16x128.size i7).toLoadRect l7) fun _ =>
            .op (.store M (Rect.unit (s := S1x8x16x128) ![0, 0, 0, 0] S1x8x16x128.size i8) (P a a' l l' g g') Finset.univ x8 y8) k) Q) := by
  unfold finished
  iintro ⟨⟨Ha, Hm, Hra, Hrm, Hz⟩, HY⟩ Hk
  iapply (wp_load_ml c b _ (rectM_subset b (congrFun h1 0) rfl i1) _) $$ Hm; iintro Hm
  rw [load_ml b 0 h1 i1]
  iapply (wp_load_rml c b _ (rectM_subset b (congrFun h2 0) rfl i2) _) $$ Hrm; iintro Hrm
  rw [load_rml b 0 h2 i2]
  iapply (wp_load_ml c b _ (rectM_subset b (congrFun h3 0) rfl i3) _) $$ Hm; iintro Hm
  rw [load_ml b 1 h3 i3]
  iapply (wp_load_rml c b _ (rectM_subset b (congrFun h4 0) rfl i4) _) $$ Hrm; iintro Hrm
  rw [load_rml b 1 h4 i4]
  iapply (wp_load_acc c b _ (rectA_subset b (congrFun h5 0) rfl i5) _) $$ Ha; iintro Ha
  rw [load_acc b h5 i5]
  iapply (wp_load_racc c b _ (rectA_subset b (congrFun h6 0) rfl i6) _) $$ Hra; iintro Hra
  rw [load_racc b h6 i6]
  iapply (wp_load_staged c M hM zeros4 i7 Y) $$ HY; iintro HY
  iapply (wp_store_staged c M hM zeros4 i8 Y _) $$ HY; iintro HY
  iapply Hk
  isplitr [HY]
  · isplitl [Ha]; · iexact Ha
    isplitl [Hm]; · iexact Hm
    isplitl [Hra]; · iexact Hra
    isplitl [Hrm] <;> iassumption
  rw [hP]
  iexact HY

end Cert.KernelIdeal.Run

end
-- ==== Proof.Body.lean ====
/-
# 01_k — `Body`: the body at each kind of grid point

The first point shakes hands and stores a first half; a later batch's first half also combines the batch before; a
second half is stored and both slots sent, and the last one is combined on the spot.
-/
module

public import proofs.«01_k».proof.Proof.Segments

@[expose] public section

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- The body on the launch's scratch buffers and semaphores. -/
abbrev kbody (i : grid0.Coords) (a2 : Memref sig .tc .vmem S1x8x8x128 .bf16) (h2 : a2.IsWhole) (a3 : Memref sig .tc .vmem S1x1024x8x128 .bf16) (h3 : a3.IsWhole)
    (a4 : Memref sig .tc .vmem S1x1024x8x128 .bf16) (h4 : a4.IsWhole) (a5 : Memref sig .tc .vmem S1x8x16x128 .f32) (h5 : a5.IsWhole) :
    Prog (TpuEff nD τ sig (Elt F) Λ₀ .tc) PUnit :=
  cc0__fused_body i a2 h2 a3 h3 a4 h4 a5 h5 accW (Memref.isWhole_whole _) mlW (Memref.isWhole_whole _) raccW (Memref.isWhole_whole _)
    rmlW (Memref.isWhole_whole _) cc0_scratch4 cc0_scratch5

/-- The four staging buffers of a grid point, their contents read. -/
def staged (c : Dev nD) (a2 : Memref sig .tc .vmem S1x8x8x128 .bf16) (a3 a4 : Memref sig .tc .vmem S1x1024x8x128 .bf16) (a5 : Memref sig .tc .vmem S1x8x16x128 .f32)
    (X2 : Vec F S1x8x8x128 .bf16) (X3 X4 : Vec F S1x1024x8x128 .bf16) (Y : Vec F S1x8x16x128 .f32) : sProp 𝕄 :=
  iprop(owns (c : Thread nD τ) a2 fullShare X2 ∗ owns (c : Thread nD τ) a3 fullShare X3 ∗ owns (c : Thread nD τ) a4 fullShare X4 ∗ owns (c : Thread nD τ) a5 fullShare Y)

/-- The three loads of the inputs' blocks at a grid point. -/
theorem wp_inputs (c : Dev nD) (a2 : Memref sig .tc .vmem S1x8x8x128 .bf16) (h2 : a2.IsWhole) (a3 : Memref sig .tc .vmem S1x1024x8x128 .bf16) (h3 : a3.IsWhole)
    (a4 : Memref sig .tc .vmem S1x1024x8x128 .bf16) (h4 : a4.IsWhole) (a5 : Memref sig .tc .vmem S1x8x16x128 .f32)
    (X2 : Vec F S1x8x8x128 .bf16) (X3 X4 : Vec F S1x1024x8x128 .bf16) (Y : Vec F S1x8x16x128 .f32) (i2 i3 i4) {l2 l3 l4}
    {α : Type} {Q : α → sProp 𝕄} {k : Vec F S1x1024x8x128 .bf16 → Vec F S1x1024x8x128 .bf16 → Vec F S1x8x8x128 .bf16 → Prog (TpuEff nD τ sig (Elt F) Λ₀ .tc) α} :
    staged c a2 a3 a4 a5 X2 X3 X4 Y
      ⊢ iprop((staged c a2 a3 a4 a5 X2 X3 X4 Y -∗ wp frame (wpE (defs₀ (F := F)) 𝒱₀ (c : Thread nD τ) none) Set.univ (k X3 X4 X2) Q)
        -∗ wp frame (wpE (defs₀ (F := F)) 𝒱₀ (c : Thread nD τ) none) Set.univ
          (.op (.load a3 (Rect.unit (s := S1x1024x8x128) ![0, 0, 0, 0] S1x1024x8x128.size i3).toLoadRect l3) fun x =>
            .op (.load a4 (Rect.unit (s := S1x1024x8x128) ![0, 0, 0, 0] S1x1024x8x128.size i4).toLoadRect l4) fun y =>
            .op (.load a2 (Rect.unit (s := S1x8x8x128) ![0, 0, 0, 0] S1x8x8x128.size i2).toLoadRect l2) fun z => k x y z) Q) := by
  unfold staged
  iintro ⟨H2, H3, H4, H5⟩ Hk
  iapply (wp_load_staged c a3 h3 zeros4 i3 X3) $$ H3; iintro H3
  iapply (wp_load_staged c a4 h4 zeros4 i4 X4) $$ H4; iintro H4
  iapply (wp_load_staged c a2 h2 zeros4 i2 X2) $$ H2; iintro H2
  iapply Hk
  isplitl [H2]; · iexact H2
  isplitl [H3]; · iexact H3
  isplitl [H4] <;> iassumption

section Cases

/-- The first grid point: the handshake, then batch 0's first half. -/
theorem body_first (c : Dev nD) (i : grid0.Coords) (a2 : Memref sig .tc .vmem S1x8x8x128 .bf16) (h2 : a2.IsWhole) (a3 : Memref sig .tc .vmem S1x1024x8x128 .bf16) (h3 : a3.IsWhole)
    (a4 : Memref sig .tc .vmem S1x1024x8x128 .bf16) (h4 : a4.IsWhole) (a5 : Memref sig .tc .vmem S1x8x16x128 .f32) (h5 : a5.IsWhole)
    (hi : (i 0).val = 0) (c1 : k0_cond1 i = 1#1) (c2 : k0_cond2 i = 1#1) (c3 : ¬ k0_cond3 i = 1#1) (c4 : ¬ k0_cond4 i = 1#1) (c5 : ¬ k0_cond5 i = 1#1)
    (Y : Vec F S1x8x16x128 .f32) :
    iprop(start m c ∗ scratch c ∗ owing c (O₀ c) ∗ staged c a2 a3 a4 a5 (qB m c (pt 0 0)) (kB m c (pt 0 0)) (vB m c (pt 0 0)) Y)
      ⊢ wp frame (wpE (defs₀ (F := F)) 𝒱₀ (c : Thread nD τ) none) Set.univ (kbody i a2 h2 a3 h3 a4 h4 a5 h5)
          fun _ => iprop(running m c 1 ∗ owing c (owedT c 1) ∗ staged c a2 a3 a4 a5 (qB m c (pt 0 0)) (kB m c (pt 0 0)) (vB m c (pt 0 0)) Y) := by
  unfold kbody
  simp only [cc0__fused_body_eq_skeleton]; unfold cc0__fused_body_skel
  simp only [k0_part6_eq_skeleton]; unfold k0_part6_skel
  simp only [dif_pos c1, dif_pos c2, dif_neg c3, dif_neg c4, dif_neg c5, semSignalWord, semWaitWord, Prog.lift, Prog.bind_op, Prog.bind_ret, Prog.pure_eq_ret, wp_deviceId]
  rw [show owedT c 1 = owedT c 0 from owedT_even c 0]
  iintro ⟨Hs, Hx, HO, Hst⟩
  iapply (wp_handshake m c _ (dev1_eq c _)) $$ [Hs Hx HO]
  · isplitl [Hs]; · iexact Hs
    isplitl [Hx] <;> iassumption
  iintro ⟨Hrun, HO⟩
  iapply (wp_inputs c a2 h2 a3 h3 a4 h4 a5 _ _ _ Y _ _ _) $$ Hst
  iintro Hst
  unfold running
  icases Hrun with ⟨HR, Hl, Hb, Hslots⟩
  ihave Hsl := (slots_step (m := m) c 0 0 (fun _ => rfl)) $$ Hslots
  icases Hsl with ⟨H0, Hback⟩
  ihave H0 := (Entails.of_eq (slotSt_fresh (m := m) c 0)) $$ H0
  iapply (wp_low m c 0 ((k0_off1_eq i).trans (by rw [hi]; rfl)) ((k0_off2_eq i).trans (by rw [hi]; rfl)) ((k0_off3_eq i).trans (by rw [hi]; rfl))
    _ _ _ _ _ _ rfl rfl rfl) $$ H0
  iintro H0
  rw [wp_ret]; imodintro
  isplitl [HR Hl Hb Hback H0]
  · isplitl [HR]; · iexact HR
    isplitl [Hl]; · iexact Hl
    isplitl [Hb]; · iexact Hb
    iapply Hback
    iapply (Entails.of_eq (slotSt_half (m := m) c 0).symm)
    iexact H0
  isplitl [HO] <;> iassumption

/-- A later batch's first half, and the combination of the batch before. -/
theorem body_low (c : Dev nD) (b p : Fin 8) (hp : p.val + 1 = b.val) (i : grid0.Coords) (a2 : Memref sig .tc .vmem S1x8x8x128 .bf16) (h2 : a2.IsWhole) (a3 : Memref sig .tc .vmem S1x1024x8x128 .bf16) (h3 : a3.IsWhole)
    (a4 : Memref sig .tc .vmem S1x1024x8x128 .bf16) (h4 : a4.IsWhole) (a5 : Memref sig .tc .vmem S1x8x16x128 .f32) (h5 : a5.IsWhole)
    (hi : (i 0).val = b.val) (c1 : ¬ k0_cond1 i = 1#1) (c2 : k0_cond2 i = 1#1) (c3 : k0_cond3 i = 1#1) (c4 : ¬ k0_cond4 i = 1#1) (c5 : ¬ k0_cond5 i = 1#1)
    (Y : Vec F S1x8x16x128 .f32) :
    iprop(running m c (2 * b.val) ∗ owing c (owedT c (2 * b.val)) ∗ staged c a2 a3 a4 a5 (qB m c (pt b 0)) (kB m c (pt b 0)) (vB m c (pt b 0)) Y)
      ⊢ wp frame (wpE (defs₀ (F := F)) 𝒱₀ (c : Thread nD τ) none) Set.univ (kbody i a2 h2 a3 h3 a4 h4 a5 h5)
          fun _ => iprop(running m c (2 * b.val + 1) ∗ owing c (owedT c (2 * b.val + 1)) ∗ staged c a2 a3 a4 a5 (qB m c (pt b 0)) (kB m c (pt b 0)) (vB m c (pt b 0)) (outB m c p)) := by
  unfold kbody
  simp only [cc0__fused_body_eq_skeleton]; unfold cc0__fused_body_skel
  simp only [k0_part6_eq_skeleton, k0_part1_eq_skeleton, k0_part2_eq_skeleton]; unfold k0_part6_skel k0_part1_skel k0_part2_skel
  simp only [dif_neg c1, dif_pos c2, dif_pos c3, dif_neg c4, dif_neg c5, semSignalWord, semWaitWord, Prog.lift, Prog.bind_op, Prog.bind_ret, Prog.pure_eq_ret, wp_deviceId]
  have hq : (i 0).val - 1 = p.val := by omega
  have hO : owedT c (2 * b.val) = owedT c (2 * b.val + 1) := (owedT_even c b).symm
  rw [← hO]
  iintro ⟨Hrun, HO, Hst⟩
  iapply (wp_inputs c a2 h2 a3 h3 a4 h4 a5 _ _ _ Y _ _ _) $$ Hst
  iintro Hst
  unfold running
  icases Hrun with ⟨⟨%K, #HR⟩, #Hl, Hb, Hslots⟩
  ihave Hsl := (slots_step2 (m := m) c b p hp) $$ Hslots
  icases Hsl with ⟨H0, H1, Hback⟩
  ihave H0 := (Entails.of_eq (slotSt_fresh (m := m) c b)) $$ H0
  ihave H1 := (Entails.of_eq ((congrArg (slotSt m c · p) (by omega : 2 * b.val = 2 * p.val + 2)).trans (slotSt_flight (m := m) c p (by omega)))) $$ H1
  iapply (wp_low m c b ((k0_off1_eq i).trans (by rw [hi])) ((k0_off2_eq i).trans (by rw [hi])) ((k0_off3_eq i).trans (by rw [hi]))
    _ _ _ _ _ _ rfl rfl rfl) $$ H0
  iintro H0
  iapply (wp_collect m K c p (2 * b.val) (by omega)
    (send_sem_eq 1 p ((off4_eq i c3).trans (by rw [hq]; rfl)) _ _) (recv_sem_eq 1 p ((off4_eq i c3).trans (by rw [hq]; rfl)) _ _)
    (send_sem_eq 0 p ((off6_eq i c3).trans (by rw [hq]; rfl)) _ _) (recv_sem_eq 0 p ((off6_eq i c3).trans (by rw [hq]; rfl)) _ _) _ _ _ _ _ _ _ _) $$ [H1 HO]
  · isplitr; · iexact HR
    isplitr; · iexact Hl
    isplitl [H1] <;> iassumption
  iintro ⟨H1, HO⟩
  unfold staged
  icases Hst with ⟨Hs2, Hs3, Hs4, Hs5⟩
  iapply (wp_merge m c p a5 h5 Y ((off8_eq i c3).trans (by rw [hq])) ((off8_eq i c3).trans (by rw [hq]))
    ((off9_eq i c3).trans (by rw [hq])) ((off9_eq i c3).trans (by rw [hq])) ((off10_eq i c3).trans (by rw [hq])) ((off10_eq i c3).trans (by rw [hq]))
    _ _ _ _ _ _ _ _ (fun a a' l l' g g' => k0_pay7 (k0_pay14 a a' l l') (k0_pay15 a a') (k0_pay16 a a') g g') (fun _ _ _ _ _ _ => rfl)) $$ [H1 Hs5]
  · isplitl [H1] <;> iassumption
  iintro ⟨H1, Hs5⟩
  rw [wp_ret]; imodintro
  isplitl [Hb Hback H0 H1]
  · isplitr; · iexists K; iexact HR
    isplitr; · iexact Hl
    isplitl [Hb]; · iexact Hb
    iapply Hback
    isplitl [H0]
    · iapply (Entails.of_eq (slotSt_half (m := m) c b).symm)
      iexact H0
    iapply (Entails.of_eq (slotSt_done (m := m) c p (2 * b.val + 1) (.inl (by omega))).symm)
    iexact H1
  isplitl [HO]; · iexact HO
  isplitl [Hs2]; · iexact Hs2
  isplitl [Hs3]; · iexact Hs3
  isplitl [Hs4] <;> iassumption

/-- A second half of a batch before the last: stored, and both slots sent. -/
theorem body_high (c : Dev nD) (b : Fin 8) (hb : b.val ≠ 7) (i : grid0.Coords) (a2 : Memref sig .tc .vmem S1x8x8x128 .bf16) (h2 : a2.IsWhole) (a3 : Memref sig .tc .vmem S1x1024x8x128 .bf16) (h3 : a3.IsWhole)
    (a4 : Memref sig .tc .vmem S1x1024x8x128 .bf16) (h4 : a4.IsWhole) (a5 : Memref sig .tc .vmem S1x8x16x128 .f32) (h5 : a5.IsWhole)
    (hi : (i 0).val = b.val) (c1 : ¬ k0_cond1 i = 1#1) (c2 : ¬ k0_cond2 i = 1#1) (c3 : ¬ k0_cond3 i = 1#1) (c4 : k0_cond4 i = 1#1) (c5 : ¬ k0_cond5 i = 1#1)
    (Y : Vec F S1x8x16x128 .f32) :
    iprop(running m c (2 * b.val + 1) ∗ owing c (owedT c (2 * b.val + 1)) ∗ staged c a2 a3 a4 a5 (qB m c (pt b 1)) (kB m c (pt b 1)) (vB m c (pt b 1)) Y)
      ⊢ wp frame (wpE (defs₀ (F := F)) 𝒱₀ (c : Thread nD τ) none) Set.univ (kbody i a2 h2 a3 h3 a4 h4 a5 h5)
          fun _ => iprop(running m c (2 * b.val + 2) ∗ owing c (owedT c (2 * b.val + 2)) ∗ staged c a2 a3 a4 a5 (qB m c (pt b 1)) (kB m c (pt b 1)) (vB m c (pt b 1)) Y) := by
  unfold kbody
  simp only [cc0__fused_body_eq_skeleton]; unfold cc0__fused_body_skel
  simp only [k0_part6_eq_skeleton, k0_part3_eq_skeleton]; unfold k0_part6_skel k0_part3_skel
  simp only [dif_neg c1, dif_neg c2, dif_neg c3, dif_pos c4, dif_neg c5, semSignalWord, semWaitWord, Prog.lift, Prog.bind_op, Prog.bind_ret, Prog.pure_eq_ret, wp_deviceId]
  iintro ⟨Hrun, HO, Hst⟩
  iapply (wp_inputs c a2 h2 a3 h3 a4 h4 a5 _ _ _ Y _ _ _) $$ Hst
  iintro Hst
  unfold running
  icases Hrun with ⟨⟨%K, #HR⟩, #Hl, Hb, Hslots⟩
  ihave Hsl := (slots_step (m := m) c b 1 (fun e => absurd e (by decide))) $$ Hslots
  icases Hsl with ⟨H0, Hback⟩
  ihave H0 := (Entails.of_eq (slotSt_half (m := m) c b)) $$ H0
  iapply (wp_high m K c _ _ (dev2_eq c _) (dev3_eq c _) b ((k0_off11_eq i).trans (by rw [hi])) ((k0_off12_eq i).trans (by rw [hi])) ((k0_off13_eq i).trans (by rw [hi]))
    ((k0_off15_eq i).trans (by rw [hi])) ((k0_off17_eq i).trans (by rw [hi])) _ _ _ _ _ _ _
    (send_sem_eq 0 b ((k0_off14_eq i).trans (by rw [hi]; rfl)) _ _) (recv_sem_eq 0 b ((k0_off14_eq i).trans (by rw [hi]; rfl)) _ _)
    (send_sem_eq 1 b ((k0_off16_eq i).trans (by rw [hi]; rfl)) _ _) (recv_sem_eq 1 b ((k0_off16_eq i).trans (by rw [hi]; rfl)) _ _)
    _ _ _ rfl rfl rfl) $$ [H0 HO]
  · isplitr; · iexact HR
    isplitl [H0] <;> iassumption
  iintro ⟨H0, HO⟩
  rw [wp_ret]; imodintro
  isplitl [Hb Hback H0]
  · isplitr; · iexists K; iexact HR
    isplitr; · iexact Hl
    isplitl [Hb]; · iexact Hb
    iapply Hback
    iapply (Entails.of_eq (slotSt_flight (m := m) c b hb).symm)
    iexact H0
  isplitl [HO] <;> iassumption

/-- The last grid point: batch 7's second half stored and sent, and batch 7 combined. -/
theorem body_last (c : Dev nD) (i : grid0.Coords) (a2 : Memref sig .tc .vmem S1x8x8x128 .bf16) (h2 : a2.IsWhole) (a3 : Memref sig .tc .vmem S1x1024x8x128 .bf16) (h3 : a3.IsWhole)
    (a4 : Memref sig .tc .vmem S1x1024x8x128 .bf16) (h4 : a4.IsWhole) (a5 : Memref sig .tc .vmem S1x8x16x128 .f32) (h5 : a5.IsWhole)
    (hi : (i 0).val = 7) (c1 : ¬ k0_cond1 i = 1#1) (c2 : ¬ k0_cond2 i = 1#1) (c3 : ¬ k0_cond3 i = 1#1) (c4 : k0_cond4 i = 1#1) (c5 : k0_cond5 i = 1#1)
    (Y : Vec F S1x8x16x128 .f32) :
    iprop(running m c 15 ∗ owing c (owedT c 15) ∗ staged c a2 a3 a4 a5 (qB m c (pt 7 1)) (kB m c (pt 7 1)) (vB m c (pt 7 1)) Y)
      ⊢ wp frame (wpE (defs₀ (F := F)) 𝒱₀ (c : Thread nD τ) none) Set.univ (kbody i a2 h2 a3 h3 a4 h4 a5 h5)
          fun _ => iprop(running m c 16 ∗ owing c (owedT c 16) ∗ staged c a2 a3 a4 a5 (qB m c (pt 7 1)) (kB m c (pt 7 1)) (vB m c (pt 7 1)) (outB m c 7)) := by
  unfold kbody
  simp only [cc0__fused_body_eq_skeleton]; unfold cc0__fused_body_skel
  simp only [k0_part6_eq_skeleton, k0_part3_eq_skeleton, k0_part4_eq_skeleton, k0_part5_eq_skeleton]; unfold k0_part6_skel k0_part3_skel k0_part4_skel k0_part5_skel
  simp only [dif_neg c1, dif_neg c2, dif_neg c3, dif_pos c4, dif_pos c5, semSignalWord, semWaitWord, Prog.lift, Prog.bind_op, Prog.bind_ret, Prog.pure_eq_ret, wp_deviceId]
  iintro ⟨Hrun, HO, Hst⟩
  iapply (wp_inputs c a2 h2 a3 h3 a4 h4 a5 _ _ _ Y _ _ _) $$ Hst
  iintro Hst
  unfold running
  icases Hrun with ⟨⟨%K, #HR⟩, #Hl, Hb, Hslots⟩
  ihave Hsl := (slots_step (m := m) c 7 1 (fun e => absurd e (by decide))) $$ Hslots
  icases Hsl with ⟨H0, Hback⟩
  ihave H0 := (Entails.of_eq (slotSt_half (m := m) c 7)) $$ H0
  iapply (wp_high m K c _ _ (dev2_eq c _) (dev3_eq c _) 7 ((k0_off11_eq i).trans (by rw [hi]; rfl)) ((k0_off12_eq i).trans (by rw [hi]; rfl)) ((k0_off13_eq i).trans (by rw [hi]; rfl))
    ((k0_off15_eq i).trans (by rw [hi]; rfl)) ((k0_off17_eq i).trans (by rw [hi]; rfl)) _ _ _ _ _ _ _
    (send_sem_eq 0 7 ((k0_off14_eq i).trans (by rw [hi]; rfl)) _ _) (recv_sem_eq 0 7 ((k0_off14_eq i).trans (by rw [hi]; rfl)) _ _)
    (send_sem_eq 1 7 ((k0_off16_eq i).trans (by rw [hi]; rfl)) _ _) (recv_sem_eq 1 7 ((k0_off16_eq i).trans (by rw [hi]; rfl)) _ _)
    _ _ _ rfl rfl rfl) $$ [H0 HO]
  · isplitr; · iexact HR
    isplitl [H0] <;> iassumption
  iintro ⟨H0, HO⟩
  iapply (wp_collect m K c 7 16 (by decide)
    (send_sem_eq 1 7 ((k0_off18_eq i).trans (by rw [hi]; rfl)) _ _) (recv_sem_eq 1 7 ((k0_off18_eq i).trans (by rw [hi]; rfl)) _ _)
    (send_sem_eq 0 7 ((k0_off20_eq i).trans (by rw [hi]; rfl)) _ _) (recv_sem_eq 0 7 ((k0_off20_eq i).trans (by rw [hi]; rfl)) _ _) _ _ _ _ _ _ _ _) $$ [H0 HO]
  · isplitr; · iexact HR
    isplitr; · iexact Hl
    isplitl [H0] <;> iassumption
  iintro ⟨H0, HO⟩
  unfold staged
  icases Hst with ⟨Hs2, Hs3, Hs4, Hs5⟩
  iapply (wp_merge m c 7 a5 h5 Y ((k0_off22_eq i).trans (by rw [hi]; rfl)) ((k0_off22_eq i).trans (by rw [hi]; rfl))
    ((k0_off23_eq i).trans (by rw [hi]; rfl)) ((k0_off23_eq i).trans (by rw [hi]; rfl)) ((k0_off24_eq i).trans (by rw [hi]; rfl)) ((k0_off24_eq i).trans (by rw [hi]; rfl))
    _ _ _ _ _ _ _ _ (fun a a' l l' g g' => k0_pay8 (k0_pay25 a a') (k0_pay26 a a') (k0_pay27 a a' l l') g g') (fun _ _ _ _ _ _ => rfl)) $$ [H0 Hs5]
  · isplitl [H0] <;> iassumption
  iintro ⟨H0, Hs5⟩
  rw [wp_ret]; imodintro
  isplitl [Hb Hback H0]
  · isplitr; · iexists K; iexact HR
    isplitr; · iexact Hl
    isplitl [Hb]; · iexact Hb
    iapply Hback
    iapply (Entails.of_eq (slotSt_done (m := m) c 7 16 (.inr ⟨rfl, rfl⟩)).symm)
    iexact H0
  isplitl [HO]; · iexact HO
  isplitl [Hs2]; · iexact Hs2
  isplitl [Hs3]; · iexact Hs3
  isplitl [Hs4] <;> iassumption

end Cases

end Cert.KernelIdeal.Run

end
-- ==== Proof.Obligation.lean ====
/-
# 01_k — `Obligation`: the body at every grid point, as the pipeline asks for it

The pipeline hands the body its inputs' blocks and takes the output's buffer back: at the second half of a batch
nothing is promised of that buffer, at the points that write a block back it holds the batch's combined block.
-/
module

public import proofs.«01_k».proof.Proof.Body
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- Grid point `t` is where batch `p`'s output block is written for good. -/
def settles (t : Fin cfg0.N) (p : Fin 8) : Prop := t.val = 2 * p.val + 2 ∨ p.val = 7 ∧ t.val = 15

/-- What the body leaves in a window's buffer: an input as found, the output at the batch's block where one settles. -/
def afterR (c : Dev nD) (w : Fin cfg0.W) (t : Fin cfg0.N) : (Y X : (cfg0.win w).block.Idx → Elt F (cfg0.win w).elt) → Prop :=
  match w with
  | ⟨0, _⟩ => fun Y X => X = Y
  | ⟨1, _⟩ => fun Y X => X = Y
  | ⟨2, _⟩ => fun Y X => X = Y
  | ⟨3, _⟩ => fun _ X => ∀ p, settles t p → X = outB m c p
  | ⟨_ + 4, h⟩ => absurd h (Nat.not_lt.2 (Nat.le_add_left _ _))

/-- The invariant before grid point `t`. -/
def inv (c : Dev nD) (t : ℕ) : sProp 𝕄 := if t = 0 then iprop(start m c ∗ scratch c) else running m c t
/-- What is owed before grid point `t`. -/
def due (c : Dev nD) (t : ℕ) : CellTallies nD τ sig Unit := if t = 0 then O₀ c else owedT c t

theorem inv_pos (c : Dev nD) {t : ℕ} (h : t ≠ 0) : inv m c t = running m c t := if_neg h
theorem due_pos (c : Dev nD) {t : ℕ} (h : t ≠ 0) : due c t = owedT c t := if_neg h

/-- The proof data of the one pipeline on device `c`. -/
def rdat (c : Dev nD) : Pipeline.RDat τ (Elt F) Unit ℕ UU ℕ cfg0 c where
  A w := m ((cfg0.win w).arr.view.loc (c : Thread nD τ))
  after := afterR m c
  Φ t := inv m c t.val
  q _ := fullShare
  owed t := due c t.val

/-- What the body finds of its inputs is their blocks. -/
theorem finds_q (c : Dev nD) (t : Fin cfg0.N) {X} (h : (rdat m c).Finds 0 t X) : X = qB m c t := by
  obtain ⟨d, rfl⟩ := ((rdat m c).finds_of_fetch (fetch0_0 t) X).mp h
  rfl
theorem finds_k (c : Dev nD) (t : Fin cfg0.N) {X} (h : (rdat m c).Finds 1 t X) : X = kB m c t := by
  obtain ⟨d, rfl⟩ := ((rdat m c).finds_of_fetch (fetch0_1 t) X).mp h
  rfl
theorem finds_v (c : Dev nD) (t : Fin cfg0.N) {X} (h : (rdat m c).Finds 2 t X) : X = vB m c t := by
  obtain ⟨d, rfl⟩ := ((rdat m c).finds_of_fetch (fetch0_2 t) X).mp h
  rfl

theorem owing_intro (c : Dev nD) (t : Fin (cfg0.N + 1)) : ((rdat m c).owesAt () t : sProp 𝕄) ⊢ owing c (due c t.val) := by
  unfold owing
  iintro ⟨%W, -, H⟩
  iexists W; iexact H
theorem owing_elim (c : Dev nD) (t : Fin (cfg0.N + 1)) : (owing c (due c t.val) : sProp 𝕄) ⊢ (rdat m c).owesAt () t := by
  unfold owing
  iintro ⟨%W, H⟩
  iexists W
  isplitr
  · ipureintro; exact fun _ _ => Or.inl trivial
  iexact H

theorem sett_low (b p' : Fin 8) (h : settles (pt b 0) p') : p'.val + 1 = b.val := by
  unfold settles pt at h; simp only [Fin.val_zero] at h; omega
theorem sett_high (b p' : Fin 8) (h : settles (pt b 1) p') : b = 7 ∧ p' = 7 := by
  unfold settles pt at h; simp only [Fin.val_one] at h
  exact ⟨Fin.ext (show b.val = 7 by omega), Fin.ext (show p'.val = 7 by omega)⟩

/-- The body at grid point `t` on its staging buffers. -/
abbrev bodyT (t : Fin cfg0.N) : Prog (TpuEff nD τ sig (Elt F) Λ₀ .tc) PUnit :=
  kbody (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))

/-- The staging buffers at a point, at the inputs' blocks and the output's contents. -/
abbrev stagedT (c : Dev nD) (t : Fin cfg0.N) (Y : Vec F S1x8x16x128 .f32) : sProp 𝕄 :=
  staged c (st0_0 t) (st0_1 t) (st0_2 t) (st0_3 t) (qB m c t) (kB m c t) (vB m c t) Y

/-- The body at every grid point: the invariant moves on, and the output's buffer is at the batch's block where one settles. -/
theorem body_step (c : Dev nD) (t : Fin cfg0.N) (Y : Vec F S1x8x16x128 .f32) :
    iprop(inv m c t.val ∗ owing c (due c t.val) ∗ stagedT m c t Y)
      ⊢ wp frame (wpE (defs₀ (F := F)) 𝒱₀ (c : Thread nD τ) none) Set.univ (bodyT t) fun _ =>
          iprop(inv m c (t.val + 1) ∗ owing c (due c (t.val + 1)) ∗ ∃ X, ⌜∀ p, settles t p → X = outB m c p⌝ ∗ stagedT m c t X) := by
  have fin : ∀ (n : ℕ) (X : Vec F S1x8x16x128 .f32), (∀ p, settles t p → X = outB m c p) → n = t.val + 1 →
      iprop(running m c n ∗ owing c (owedT c n) ∗ stagedT m c t X)
        ⊢ iprop(inv m c (t.val + 1) ∗ owing c (due c (t.val + 1)) ∗ ∃ X, ⌜∀ p, settles t p → X = outB m c p⌝ ∗ stagedT m c t X) := by
    rintro n X hX rfl
    rw [inv_pos m c (Nat.succ_ne_zero _), due_pos c (Nat.succ_ne_zero _)]
    iintro ⟨H1, H2, H3⟩
    isplitl [H1]; · iexact H1
    isplitl [H2]; · iexact H2
    iexists X
    isplitr; · ipureintro; exact hX
    iexact H3
  obtain ⟨b, j, rfl⟩ := exists_pt t
  have hc := (coords_pt b j).1
  rcases Fin.exists_fin_two.mp ⟨j, rfl⟩ with rfl | rfl
  · by_cases hb : b = 0
    · subst hb
      rw [show inv m c (pt 0 0).val = iprop(start m c ∗ scratch c) from if_pos rfl, show due c (pt 0 0).val = O₀ c from if_pos rfl]
      refine (BI.sep_assoc).trans ((body_first m c _ _ _ _ _ _ _ _ _ hc ((cond1_pt 0 0).mpr ⟨rfl, rfl⟩) ((cond2_pt 0 0).mpr rfl)
        (fun h => absurd ((cond3_pt 0 0).mp h).2 (by decide)) (fun h => absurd ((cond4_pt 0 0).mp h) (by decide))
        (fun h => absurd ((cond5_pt 0 0).mp h).1 (by decide)) Y).trans (wp_mono _ _ _ fun _ => fin 1 Y (fun p hp => absurd (sett_low 0 p hp) (by simp)) rfl))
    · have hb' : 0 < b.val := Nat.pos_of_ne_zero fun h => hb (Fin.ext h)
      have hp : (⟨b.val - 1, by omega⟩ : Fin 8).val + 1 = b.val := Nat.sub_add_cancel hb'
      have hv : (pt b 0).val = 2 * b.val := rfl
      rw [inv_pos m c (by omega), due_pos c (by omega)]
      refine (body_low m c b ⟨b.val - 1, by omega⟩ hp _ _ _ _ _ _ _ _ _ hc (fun h => hb ((cond1_pt b 0).mp h).1) ((cond2_pt b 0).mpr rfl)
        ((cond3_pt b 0).mpr ⟨rfl, hb'⟩) (fun h => absurd ((cond4_pt b 0).mp h) (by decide))
        (fun h => absurd ((cond5_pt b 0).mp h).1 (by decide)) Y).trans (wp_mono _ _ _ fun _ => fin _ _ (fun p hp' => by
          have h1 := sett_low b p hp'
          exact congrArg (outB m c) (Fin.ext (show b.val - 1 = p.val by omega))) rfl)
  · have hv : (pt b 1).val = 2 * b.val + 1 := rfl
    rw [inv_pos m c (by omega), due_pos c (by omega)]
    by_cases hb : b = 7
    · subst hb
      refine (body_last m c _ _ _ _ _ _ _ _ _ hc (fun h => absurd ((cond1_pt 7 1).mp h).2 (by decide)) (fun h => absurd ((cond2_pt 7 1).mp h) (by decide))
        (fun h => absurd ((cond3_pt 7 1).mp h).1 (by decide)) ((cond4_pt 7 1).mpr rfl) ((cond5_pt 7 1).mpr ⟨rfl, rfl⟩) Y).trans
        (wp_mono _ _ _ fun _ => fin _ _ (fun p hp => by rw [(sett_high 7 p hp).2]) rfl)
    · refine (body_high m c b (fun h => hb (Fin.ext h)) _ _ _ _ _ _ _ _ _ hc (fun h => absurd ((cond1_pt b 1).mp h).2 (by decide)) (fun h => absurd ((cond2_pt b 1).mp h) (by decide))
        (fun h => absurd ((cond3_pt b 1).mp h).1 (by decide)) ((cond4_pt b 1).mpr rfl) (fun h => hb ((cond5_pt b 1).mp h).2) Y).trans
        (wp_mono _ _ _ fun _ => fin _ _ (fun p hp => absurd (sett_high b p hp).1 hb) rfl)

/-- The pipeline's body obligation. -/
theorem body_obligation (c : Dev nD) : (rdat m c).BodyObligation (defs₀ (F := F)) 𝒱₀ () Set.univ := by
  intro t Y hY
  have h0 := finds_q m c t (hY 0)
  have h1 := finds_k m c t (hY 1)
  have h2 := finds_v m c t (hY 2)
  rw [bigSep_W0, bigSep_W0]
  show iprop(inv m c t.val ∗ (rdat m c).owesAt () t.castSucc ∗ staged c (st0_0 t) (st0_1 t) (st0_2 t) (st0_3 t) (Y 0) (Y 1) (Y 2) (Y 3)) ⊢
    wp frame (wpE (defs₀ (F := F)) 𝒱₀ (c : Thread nD τ) none) Set.univ (bodyT t) fun _ =>
      iprop(inv m c (t.val + 1) ∗ (rdat m c).owesAt () t.succ
        ∗ ((∃ X, ⌜X = Y 0⌝ ∗ owns (c : Thread nD τ) (st0_0 t) fullShare X) ∗ (∃ X, ⌜X = Y 1⌝ ∗ owns (c : Thread nD τ) (st0_1 t) fullShare X)
          ∗ (∃ X, ⌜X = Y 2⌝ ∗ owns (c : Thread nD τ) (st0_2 t) fullShare X)
          ∗ ∃ X, ⌜∀ p, settles t p → X = outB m c p⌝ ∗ owns (c : Thread nD τ) (st0_3 t) fullShare X))
  rw [h0, h1, h2]
  refine (sep_mono_right (sep_mono_left (owing_intro m c t.castSucc))).trans ((body_step m c t (Y 3)).trans (wp_mono _ _ _ fun _ => ?_))
  unfold stagedT staged
  iintro ⟨H1, H2, ⟨%X, %hX, Ha, Hb, Hc, Hd⟩⟩
  isplitl [H1]; · iexact H1
  isplitl [H2]; · iapply (owing_elim m c t.succ); iexact H2
  isplitl [Ha]; · iexists _; isplitr; · ipureintro; rfl
                  iexact Ha
  isplitl [Hb]; · iexists _; isplitr; · ipureintro; rfl
                  iexact Hb
  isplitl [Hc]; · iexists _; isplitr; · ipureintro; rfl
                  iexact Hc
  iexists X
  isplitr; · ipureintro; exact hX
  iexact Hd

end Cert.KernelIdeal.Run

end
-- ==== Proof.Launch.lean ====
/-
# 01_k — `Launch`: the protocol dealt to the devices, and the run

At launch every cell's invariant is allocated and the duties' tokens are dealt: a barrier's and a receiving cell's to
the partner, a sending cell's to its own device. What the devices owe at launch is exactly the credits their partners
wait with.
-/
module

public import proofs.«01_k».proof.Proof.Obligation
public import Idealize.ShloMosaic.Lib.Quiescent
public import Idealize.ShloMosaic.Lib.Pipeline.Cells
public import Idealize.ShloMosaic.Lib.Pipeline.CollectiveSegs

@[expose] public section

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## A device's cells, batch by batch -/

/-- The kernel's own semaphores: the transfer cells'. -/
abbrev osem : Bool × Fin 2 × Fin 8 → SemLoc sig := fun k => csem (some k)

theorem ownSemFacts : Pipeline.OwnSemFacts cfg0.spec osem := by decide

omit [FloatOps F] [Named F] in
/-- The four transfer cells of every batch. -/
theorem by_batch (Φ : Bool × Fin 2 × Fin 8 → sProp 𝕄) : bigSep Finset.univ Φ
    = bigSep Finset.univ fun b : Fin 8 => iprop(Φ (false, 0, b) ∗ Φ (false, 1, b) ∗ Φ (true, 0, b) ∗ Φ (true, 1, b)) := by
  have hk (Ψ : Fin 2 × Fin 8 → sProp 𝕄) : bigSep Finset.univ Ψ
      = iprop((bigSep Finset.univ fun b : Fin 8 => Ψ (0, b)) ∗ bigSep Finset.univ fun b : Fin 8 => Ψ (1, b)) := by
    rw [bigSep_univ_prod, bigSep_univ_eq_bigSepL [(0 : Fin 2), 1] (by decide) (by decide)]; rfl
  rw [bigSep_univ_prod, bigSep_univ_eq_bigSepL [false, true] (by decide) (by decide)]
  show iprop((bigSep Finset.univ fun x : Fin 2 × Fin 8 => Φ (false, x)) ∗ bigSep Finset.univ fun x : Fin 2 × Fin 8 => Φ (true, x)) = _
  rw [hk, hk]
  simp only [bigSep_sep']
  exact equiv_iff.mp ⟨BI.sep_assoc, BI.sep_assoc'⟩

omit [FloatOps F] [Named F] in
/-- All cells of a device: the barrier's and the transfers'. -/
theorem by_cell (Φ : CK → sProp 𝕄) : bigSep Finset.univ Φ = iprop(Φ none ∗ bigSep Finset.univ fun k => Φ (some k)) := by
  rw [show (Finset.univ : Finset CK) = insert none (Finset.univ.map Function.Embedding.some) from by
    ext x; cases x <;> simp, BI.bigSep_insert (by simp), BI.bigSep_map]
  rfl

/-! ## The launch element -/

theorem cellOf_injective : Function.Injective (fun x : Dev nD × CK => cell x.1 x.2) := fun x y h => Prod.ext (cell_inj h).1 (cell_inj h).2

def allCells : Finset (GSem nD τ sig) := Finset.univ.map ⟨fun x : Dev nD × CK => cell x.1 x.2, cellOf_injective⟩
def allToks : Finset (GSem nD τ sig × ℕ × Unit) :=
  Finset.univ.map ⟨fun x : Dev nD × CK => (cell x.1 x.2, 0, ()), fun x y h => cellOf_injective (congrArg Prod.fst h)⟩

def u₀ : UU := (initOf (Pipeline.cells cfgs cellOf_inj) (Pipeline.launchToks cfgs cellOf_inj), initOf allCells allToks)

/-- What the launch element deals device `c`: its own cells' rounds, positions and tokens. -/
def G (c : Dev nD) : sProp 𝕄 :=
  iprop((bigSep Finset.univ fun x : CK => roundState ER (Rd m) (cell c x) 0)
    ∗ (bigSep Finset.univ fun x : CK => iprop(posAt c x ∗ reached ER (cell c x) 0)) ∗ bigSep Finset.univ fun x : CK => tokAt c x)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : CK => Φ (cell c x) := by
    unfold allCells; rw [BI.bigSep_map, bigSep_univ_prod]; rfl
  have hT : bigSep allToks (fun x => (dutyTok ER x.1 x.2.1 x.2.2 : sProp 𝕄)) = bigSep Finset.univ fun c : Dev nD => bigSep Finset.univ fun x : CK => tokAt c x := by
    unfold allToks; rw [BI.bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The invariants allocated, the tokens dealt -/

abbrev ownSems (c : Dev nD) : sProp 𝕄 := Pipeline.ownSems0 (Ix := Unit) (Name := ℕ) (U := UU) (Lvl := ℕ) (Val := Elt F) (τ := τ) osem c

omit [FloatOps F] [Named F] in
/-- The barrier's is the launch's one unscoped semaphore. -/
theorem unscoped_eq (c : Dev nD) : (unscopedSems0 c : sProp 𝕄) = semVal (barC c) 0 := by
  unfold unscopedSems0; rw [bigSep_eq_bigSepL_of_eq [SemLoc.reg barS] (by decide) (by decide)]; rfl

omit [FloatOps F] [Named F] in
theorem own_eq (c : Dev nD) : (ownSems c : sProp 𝕄) = bigSep Finset.univ (zeros c) := by
  unfold ownSems Pipeline.ownSems0; rw [by_batch]; rfl

omit [FloatOps F] [Named F] in
/-- Every cell's counter at zero. -/
theorem sems_eq (c : Dev nD) : (iprop(ownSems c ∗ unscopedSems0 c) : sProp 𝕄) ⊢ bigSep Finset.univ fun x : CK => semVal (cell c x) 0 := by
  unfold ownSems Pipeline.ownSems0
  rw [unscoped_eq, by_cell]
  iintro ⟨H1, H2⟩
  isplitl [H2]; · iexact H2
  iexact H1

theorem cells_alloc (c : Dev nD) : iprop(ownSems c ∗ unscopedSems0 c ∗ G m c)
    ⊢ |={Set.univ}=> iprop((bigSep Finset.univ fun x : CK => iprop(∃ κ : ℕ, cellInv ER (Rd m) κ (cell c x)))
        ∗ (bigSep Finset.univ fun x : CK => iprop(posAt c x ∗ reached ER (cell c x) 0)) ∗ bigSep Finset.univ fun x : CK => tokAt c x) := by
  unfold G
  iintro ⟨Hos, Hus, Hst, Hat, Htok⟩
  ihave Hv := (sems_eq (F := F) c) $$ [Hos Hus]
  · isplitl [Hos] <;> iassumption
  imod (show iprop((bigSep Finset.univ fun x : CK => semVal (cell c x) 0) ∗ bigSep Finset.univ fun x : CK => roundState ER (Rd m) (cell c x) 0)
      ⊢ (|={Set.univ}=> bigSep Finset.univ fun x : CK => iprop(∃ κ : ℕ, cellInv ER (Rd m) κ (cell c x)) : sProp 𝕄) from by
        rw [← bigSep_sep']
        exact (bigSep_mono fun x _ => (Rounds.body_intro ER (Rd m) (cell c x)).trans inv_alloc).trans (bigSep_fupd _ _)) $$ [Hv Hst] with Hinv
  · isplitl [Hv] <;> iassumption
  imodintro
  isplitl [Hinv]; · iexact Hinv
  isplitl [Hat]; · iexact Hat
  iexact Htok

/-- A batch's four positions. -/
def posB (c : Dev nD) (b : Fin 8) : sProp 𝕄 :=
  iprop(posAt c (some (false, 0, b)) ∗ posAt c (some (false, 1, b)) ∗ posAt c (some (true, 0, b)) ∗ posAt c (some (true, 1, b)))
/-- The tokens of the duties device `c` pays, -/
def myToks (c : Dev nD) : sProp 𝕄 := iprop(tokAt (peer c) none ∗ bigSep Finset.univ fun b => toksB c b)
/-- the positions of its own cells; -/
def myPos (c : Dev nD) : sProp 𝕄 := iprop(posAt c none ∗ bigSep Finset.univ fun b => posB c b)
/-- with the records, what the global step leaves device `c`. -/
def G' (c : Dev nD) : sProp 𝕄 := iprop((∃ K, records m K) ∗ myPos c ∗ myToks c)

omit [FloatOps F] [Named F] in
theorem pos_eq (c : Dev nD) : (bigSep Finset.univ fun x : CK => posAt c x : sProp 𝕄) = myPos c := by
  unfold myPos posB; rw [by_cell, by_batch]

omit [FloatOps F] [Named F] in
/-- The tokens dealt: the barrier's and the receiving cells' to the partner. -/
theorem deal : (bigSep Finset.univ fun c : Dev nD => bigSep Finset.univ fun x : CK => (tokAt c x : sProp 𝕄)) ⊢ bigSep Finset.univ fun c : Dev nD => myToks c := by
  unfold myToks toksB
  simp only [by_cell, by_batch, bigSep_sep']
  rw [bigSep_univ_equiv pairing (fun c : Dev nD => (tokAt c none : sProp 𝕄)),
    bigSep_univ_equiv pairing (fun c : Dev nD => bigSep Finset.univ fun b : Fin 8 => (tokAt c (some (true, 0, b)) : sProp 𝕄)),
    bigSep_univ_equiv pairing (fun c : Dev nD => bigSep Finset.univ fun b : Fin 8 => (tokAt c (some (true, 1, b)) : sProp 𝕄))]
  exact BI.Entails.refl _

theorem share_records {Φ Ψ : Dev nD → sProp 𝕄} (K : Dev nD × CK → ℕ) (h : ∀ c, iprop(records m K ∗ Φ c) ⊢ Ψ c) :
    iprop(records m K ∗ bigSep Finset.univ Φ) ⊢ bigSep Finset.univ Ψ :=
  (sep_mono_left (BI.bigSep_of_persistent Finset.univ (records m K))).trans (by rw [← bigSep_sep']; exact bigSep_mono fun c _ => h c)

theorem regroup :
    (bigSep Finset.univ fun c : Dev nD => iprop((bigSep Finset.univ fun x : CK => iprop(∃ κ : ℕ, cellInv ER (Rd m) κ (cell c x)))
        ∗ (bigSep Finset.univ fun x : CK => iprop(posAt c x ∗ reached ER (cell c x) 0)) ∗ bigSep Finset.univ fun x : CK => tokAt c x) : sProp 𝕄)
      ⊢ bigSep Finset.univ (G' m) := by
  rw [bigSep_sep', bigSep_sep', ← bigSep_univ_prod (fun x : Dev nD × CK => iprop(∃ κ : ℕ, cellInv ER (Rd m) κ (cell x.1 x.2))),
    bigSep_congr (s := Finset.univ) (fun (c : Dev nD) _ => bigSep_sep' Finset.univ (fun x : CK => (posAt c x : sProp 𝕄)) (fun x => reached ER (cell c x) 0)),
    bigSep_sep', ← bigSep_univ_prod (fun x : Dev nD × CK => (reached ER (cell x.1 x.2) 0 : sProp 𝕄)),
    bigSep_congr (s := Finset.univ) (fun (c : Dev nD) _ => pos_eq (F := F) c)]
  iintro ⟨HI, ⟨Hat, #HR⟩, Htok⟩
  ihave HK := (BI.bigSep_exists_pi Finset.univ (fun (x : Dev nD × CK) (κ : ℕ) => (cellInv ER (Rd m) κ (cell x.1 x.2) : sProp 𝕄))) $$ HI
  icases HK with ⟨%K, #HI⟩
  ihave Htok := (deal (F := F)) $$ Htok
  iapply (share_records m (Φ := fun c => iprop(myPos c ∗ myToks c)) (Ψ := G' m) K fun c => by
    unfold G'
    iintro ⟨H, Hp⟩
    isplitl [H]; · iexists K; iexact H
    iexact Hp)
  isplitr
  · unfold records; isplitl; · iexact HI
    iexact HR
  · rw [bigSep_sep']
    isplitl [Hat] <;> iassumption

/-- The global step: own and unscoped semaphores of every device at once. -/
theorem glob : (bigSep Finset.univ fun c => iprop(ownSems c ∗ unscopedSems0 c ∗ G m c) : sProp 𝕄) ⊢ |={Set.univ}=> bigSep Finset.univ (G' m) :=
  ((bigSep_mono fun c _ => cells_alloc m c).trans (bigSep_fupd _ _)).trans (BI.fupd_mono (regroup m))

/-! ## The launch credit -/

theorem O₀_eq : O₀ = fun d => (∑ b ∈ (Finset.univ : Finset (Fin 8)), owedB d b) + tallyAt (barC (peer d)) () 1 := by
  funext d
  unfold O₀ owedT
  exact congrArg (· + _) (Finset.sum_congr rfl fun b _ => if_pos (Nat.zero_le _))

omit [FloatOps F] [Named F] in
/-- The credits device `c` waits with: its partner owes them at launch. -/
theorem creds (c : Dev nD) : (Pipeline.launchCred O₀ c : sProp 𝕄)
    ⊢ iprop(cred (tallyAt (barC c) () 1) ∗ bigSep Finset.univ fun b : Fin 8 => iprop(cred (tallyAt (recvC c 0 b) () NA) ∗ cred (tallyAt (recvC c 1 b) () NM))) := by
  have hb (b : Fin 8) : (Pipeline.launchCred (fun d => owedB d b) c : sProp 𝕄) ⊢ iprop(cred (tallyAt (recvC c 0 b) () NA) ∗ cred (tallyAt (recvC c 1 b) () NM)) := by
    unfold owedB
    rw [Pipeline.launchCred_add (fun d => tallyAt (recvC (peer d) 1 b) () NM) (fun d => tallyAt (recvC (peer d) 0 b) () NA)]
    iintro ⟨H1, H0⟩
    isplitl [H0]
    · iapply (Pipeline.launchCred_tallyAt (csem (some (true, 0, b))) peer peer peer_peer peer_peer () NA c); iexact H0
    · iapply (Pipeline.launchCred_tallyAt (csem (some (true, 1, b))) peer peer peer_peer peer_peer () NM c); iexact H1
  rw [O₀_eq, Pipeline.launchCred_add (fun d => ∑ b ∈ (Finset.univ : Finset (Fin 8)), owedB d b) (fun d => tallyAt (barC (peer d)) () 1),
    Pipeline.launchCred_sum Finset.univ (fun b d => owedB d b) c]
  have hsum : (bigSep Finset.univ fun b : Fin 8 => (Pipeline.launchCred (fun d => owedB d b) c : sProp 𝕄))
      ⊢ bigSep Finset.univ fun b : Fin 8 => iprop(cred (tallyAt (recvC c 0 b) () NA) ∗ cred (tallyAt (recvC c 1 b) () NM)) := bigSep_mono fun b _ => hb b
  iintro ⟨H, Hbar⟩
  isplitl [Hbar]
  · iapply (Pipeline.launchCred_tallyAt (csem none) peer peer peer_peer peer_peer () 1 c); iexact Hbar
  iapply hsum; iexact H

/-! ## The theorem's side conditions -/

omit [FloatOps F] [Named F] in
theorem ticket_intro (c : Dev nD) (b : Fin 8) :
    (iprop((cred (tallyAt (recvC c 0 b) () NA) ∗ cred (tallyAt (recvC c 1 b) () NM)) ∗ posB c b ∗ toksB c b) : sProp 𝕄) ⊢ iprop(toksB c b ∗ ticket c b) := by
  unfold ticket posB
  iintro ⟨⟨H1, H2⟩, H3, H4⟩
  isplitl [H4]; · iexact H4
  isplitl [H1]; · iexact H1
  isplitl [H2]; · iexact H2
  iexact H3

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hall : (iprop((bigSep Finset.univ fun b : Fin 8 => iprop(cred (tallyAt (recvC c 0 b) () NA) ∗ cred (tallyAt (recvC c 1 b) () NM)))
      ∗ (bigSep Finset.univ fun b => posB c b) ∗ bigSep Finset.univ fun b => toksB c b) : sProp 𝕄)
      ⊢ bigSep Finset.univ fun b => iprop(toksB c b ∗ ticket c b) := by
    rw [← bigSep_sep', ← bigSep_sep']; exact bigSep_mono fun b _ => ticket_intro c b
  unfold start G' myPos myToks
  iintro ⟨-, Hlev, Hcr, -, HR, ⟨Hp, Hps⟩, Ht, Hts⟩
  ihave Hc := (creds (F := F) c) $$ Hcr
  icases Hc with ⟨H1, HN⟩
  imodintro
  isplitl
  · isplitl [HR]; · iexact HR
    isplitl [Hlev]; · iexact Hlev
    isplitl [Ht]; · iexact Ht
    isplitl [H1]; · iexact H1
    isplitl [Hp]; · iexact Hp
    iapply hall
    isplitl [HN]; · iexact HN
    isplitl [Hps] <;> iassumption
  · iempintro

theorem slotsA_univ : (Finset.univ : Finset (Fin 8)).biUnion slotA = Finset.univ :=
  Finset.eq_univ_iff_forall.mpr fun x => Finset.mem_biUnion.mpr ⟨x 0, Finset.mem_univ _, mem_slotA.mpr rfl⟩
theorem slotsM_univ : (Finset.univ : Finset (Fin 8)).biUnion slotM = Finset.univ :=
  Finset.eq_univ_iff_forall.mpr fun x => Finset.mem_biUnion.mpr ⟨x 0, Finset.mem_univ _, mem_slotM.mpr rfl⟩
theorem slotsA_disj (b : Fin 8) (_ : b ∈ (Finset.univ : Finset (Fin 8))) (b' : Fin 8) (_ : b' ∈ (Finset.univ : Finset (Fin 8))) (h : b ≠ b') : Disjoint (slotA b) (slotA b') :=
  Finset.disjoint_left.mpr fun x h1 h2 => h (Fin.ext ((mem_slotA.mp h1).symm.trans (mem_slotA.mp h2)))
theorem slotsM_disj (b : Fin 8) (_ : b ∈ (Finset.univ : Finset (Fin 8))) (b' : Fin 8) (_ : b' ∈ (Finset.univ : Finset (Fin 8))) (h : b ≠ b') : Disjoint (slotM b) (slotM b') :=
  Finset.disjoint_left.mpr fun x h1 h2 => h (Fin.ext ((mem_slotM.mp h1).symm.trans (mem_slotM.mp h2)))

omit [FloatOps F] [Named F] in
/-- Each scratch buffer whole is its batches' slots. -/
theorem whole_acc (c : Dev nD) (f : S8x8x16x128.Idx → Elt F .bf16) :
    (((c : Thread nD τ).loc cc0_scratch0) ↦{fullShare} f : sProp 𝕄) = bigSep Finset.univ fun b => accS c b f :=
  (congrArg (fun S : Finset S8x8x16x128.Idx => (((c : Thread nD τ).loc cc0_scratch0) ↦[S]{fullShare} f : sProp 𝕄)) slotsA_univ.symm).trans
    (pointsTo_biUnion (ℓ := (c : Thread nD τ).loc cc0_scratch0) Finset.univ slotA slotsA_disj)
omit [FloatOps F] [Named F] in
theorem whole_ml (c : Dev nD) (f : S8x2x16x8.Idx → Elt F .f32) :
    (((c : Thread nD τ).loc cc0_scratch1) ↦{fullShare} f : sProp 𝕄) = bigSep Finset.univ fun b => mlS c b f :=
  (congrArg (fun S : Finset S8x2x16x8.Idx => (((c : Thread nD τ).loc cc0_scratch1) ↦[S]{fullShare} f : sProp 𝕄)) slotsM_univ.symm).trans
    (pointsTo_biUnion (ℓ := (c : Thread nD τ).loc cc0_scratch1) Finset.univ slotM slotsM_disj)
omit [FloatOps F] [Named F] in
theorem whole_racc (c : Dev nD) (f : S8x8x16x128.Idx → Elt F .bf16) :
    (((c : Thread nD τ).loc cc0_scratch2) ↦{fullShare} f : sProp 𝕄) = bigSep Finset.univ fun b => raccS c b f :=
  (congrArg (fun S : Finset S8x8x16x128.Idx => (((c : Thread nD τ).loc cc0_scratch2) ↦[S]{fullShare} f : sProp 𝕄)) slotsA_univ.symm).trans
    (pointsTo_biUnion (ℓ := (c : Thread nD τ).loc cc0_scratch2) Finset.univ slotA slotsA_disj)
omit [FloatOps F] [Named F] in
theorem whole_rml (c : Dev nD) (f : S8x2x16x8.Idx → Elt F .f32) :
    (((c : Thread nD τ).loc cc0_scratch3) ↦{fullShare} f : sProp 𝕄) = bigSep Finset.univ fun b => rmlS c b f :=
  (congrArg (fun S : Finset S8x2x16x8.Idx => (((c : Thread nD τ).loc cc0_scratch3) ↦[S]{fullShare} f : sProp 𝕄)) slotsM_univ.symm).trans
    (pointsTo_biUnion (ℓ := (c : Thread nD τ).loc cc0_scratch3) Finset.univ slotM slotsM_disj)

omit [FloatOps F] [Named F] in
theorem scratch_intro (c : Dev nD) : (Pipeline.scopedRest spec0 c : sProp 𝕄) ⊢ scratch c := by
  have hb (f0 : S8x8x16x128.Idx → Elt F .bf16) (f1 : S8x2x16x8.Idx → Elt F .f32) (f2 : S8x8x16x128.Idx → Elt F .bf16) (f3 : S8x2x16x8.Idx → Elt F .f32) :
      (bigSep Finset.univ fun b : Fin 8 => iprop(accS c b f0 ∗ mlS c b f1 ∗ raccS c b f2 ∗ rmlS c b f3) : sProp 𝕄) ⊢ scratch c := by
    unfold scratch
    refine bigSep_mono fun b _ => show iprop(accS c b f0 ∗ mlS c b f1 ∗ raccS c b f2 ∗ rmlS c b f3)
      ⊢ iprop((∃ f, accS c b f) ∗ (∃ f, mlS c b f) ∗ (∃ f, raccS c b f) ∗ (∃ f, rmlS c b f)) from ?_
    iintro ⟨H0, H1, H2, H3⟩
    isplitl [H0]; · iexists f0; iexact H0
    isplitl [H1]; · iexists f1; iexact H1
    isplitl [H2]; · iexists f2; iexact H2
    iexists f3; iexact H3
  rw [scopedRest0_eq]
  iintro ⟨⟨%f0, H0⟩, ⟨%f1, H1⟩, ⟨%f2, H2⟩, ⟨%f3, H3⟩⟩
  iapply (hb f0 f1 f2 f3)
  simp only [bigSep_sep']
  isplitl [H0]; · iapply (Entails.of_eq (whole_acc (F := F) c f0)); iexact H0
  isplitl [H1]; · iapply (Entails.of_eq (whole_ml (F := F) c f1)); iexact H1
  isplitl [H2]; · iapply (Entails.of_eq (whole_racc (F := F) c f2)); iexact H2
  iapply (Entails.of_eq (whole_rml (F := F) c f3)); iexact H3

theorem phi_intro (c : Dev nD) :
    iprop(start m c ∗ Pipeline.prefHeld Pipeline.Prefetch.none c (fun _ => fullShare.right) (fun k => k.elim0) ∗ Pipeline.scopedRest cfg0.spec c)
      ⊢ (rdat m c).Φ 0 := by
  rw [show (rdat m c).Φ 0 = iprop(start m c ∗ scratch c) from rfl]
  iintro ⟨Hs, -, Hr⟩
  isplitl [Hs]; · iexact Hs
  iapply (scratch_intro (F := F) c); iexact Hr

/-- After the last point every slot is back and every cell closed. -/
theorem phi_exit (c : Dev nD) :
    (rdat m c).Φ (Fin.last cfg0.N) ⊢ iprop(unscopedSems0 c ∗ Pipeline.ownSems0 osem c ∗ Pipeline.scopedRest cfg0.spec c) := by
  have hN : ((Fin.last cfg0.N).val : ℕ) = 16 := cfg0_N
  have hd : slots m c 16 = bigSep Finset.univ fun b => finished m c b := by
    unfold slots
    exact bigSep_congr fun b _ => slotSt_done c b 16 (by omega)
  rw [show (rdat m c).Φ (Fin.last cfg0.N) = running m c 16 from by
      show inv m c (Fin.last cfg0.N).val = _; rw [hN]; exact inv_pos m c (by decide),
    show Pipeline.scopedRest cfg0.spec c = Pipeline.scopedRest spec0 c from rfl, scopedRest0_eq, unscoped_eq]
  unfold running
  rw [hd]
  unfold finished
  simp only [bigSep_sep']
  iintro ⟨-, -, Hb, H0, H1, H2, H3, Hz⟩
  isplitl [Hb]; · iexact Hb
  isplitl [Hz]; · iapply (Entails.of_eq (own_eq (F := F) c).symm); iexact Hz
  isplitl [H0]; · iexists (accF m c); iapply (Entails.of_eq (whole_acc c (accF m c)).symm); iexact H0
  isplitl [H1]; · iexists (mlF m c); iapply (Entails.of_eq (whole_ml c (mlF m c)).symm); iexact H1
  isplitl [H2]; · iexists (accF m (peer c)); iapply (Entails.of_eq (whole_racc c (accF m (peer c))).symm); iexact H2
  iexists (mlF m (peer c)); iapply (Entails.of_eq (whole_rml c (mlF m (peer c))).symm); iexact H3

theorem waits (c : Dev nD) : (levAts L lv : sProp 𝕄) ⊢ Pipeline.RDat.cellsWaits cfgs (fun _ => rdat m) () 0 c :=
  Pipeline.RDat.cellsWaits_intro cfgs (fun _ => rdat m) () 0 c fun w s t => by
    have h0 : lv ((c : Thread nD τ), SemLoc.dma ((cfg0.win w).sem s)) () = 0 := by
      have hd : decode (SemLoc.dma ((cfg0.win w).sem s)) = none := by fin_cases w <;> fin_cases s <;> decide
      unfold lv; rw [hd]
    show (levAts L lv : sProp 𝕄) ⊢ MayWait (c : Thread nD τ) (.dma ((cfg0.win w).sem s)) () (due c t.val)
    by_cases ht : t.val = 0
    · rw [show due c t.val = O₀ c from if_pos ht]; exact mayWait_O₀ c _ h0
    · rw [due_pos c ht]; exact mayWait_T c _ t.val 0 h0.le (by omega)

/-! ## The run -/

set_option maxRecDepth 8000 in
/-- On the compiled mesh, for any float values, from any memory with zero counters: every weakly fair execution of
    @main terminates, every array ends at contents the pipeline's write-backs may leave, and every counter is zero. -/
theorem run_arrays (ρ : Dev nD → PrngReg) : θ_run defs (onTc (τ := τ) (main (F := F))) ⟨m, fun _ => 0, ρ⟩
    (fun r => (∀ c w, (rdat m c).ArrAt w cfg0.N (r.2.mem ((cfg0.win w).arr.view.loc (c : Thread nD τ)))) ∧ r.2.sem = fun _ => 0) :=
  Pipeline.RDat.θ_run_region_owing_glob_pf (fun p => (cfgs p).toPCfg) (fun p => (cfgs p).toPCfg_adm) (fun _ => rdat m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := fun c w => (rdat m c).share_full (fun _ => rfl) w) (hdistinct := winFacts0.arr_inj)
    (O₀ := O₀) (howed₀ := fun _ => rfl) (howedN := fun c => by
      show due c (Fin.last cfg0.N).val = 0
      rw [show ((Fin.last cfg0.N).val : ℕ) = 16 from cfg0_N, due_pos c (by decide), owedT_last])
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_intro m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end
-- ==== Proof.Value.lean ====
/-
# 01_k — `Value`: the result array after the run

The output's write-backs, in order: batch 7's block goes out once before it is computed and again at the last grid
point; every other batch's goes out once. An element's last write-back is the one at its batch's settling point.
-/
module

public import proofs.«01_k».proof.Proof.Launch
public import Idealize.ShloMosaic.Lib.Pipeline.Value

@[expose] public section

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- The result array of device `c`, for the arguments in memory. -/
def outArr (c : Dev nD) : S8x8x16x128.Idx → Elt F .f32 := fun x =>
  outB m c (x 0 : Fin 8) (ix4 (0 : Fin 1) (x 1 : Fin 8) (x 2 : Fin 16) (x 3 : Fin 128))

/-- The grid point after which batch `p`'s output block is final. -/
def settlePt (p : Fin 8) : ℕ := if p.val = 7 then 15 else 2 * p.val + 2

/-- The output's block index at a grid point: the batch whose block it is, on the first axis, -/
def outIx (n : Fin 16) : Fin 8 := ⟨(n.val / 2 + 7 + n.val % 2) % 8, Nat.mod_lt _ (by decide)⟩

theorem index_out (t : Fin cfg0.N) : ∀ a : Fin 4, (cfg0.win 3).index t a = if a = 0 then (outIx (t.cast cfg0_N)).val else 0 := by
  revert t; decide

/-- A write-back settles its batch, but for the first, of batch 7. -/
theorem flush_out (t : Fin cfg0.N) (h : (cfg0.win 3).flush t = true) :
    settlePt (outIx (t.cast cfg0_N)) = t.val ∨ outIx (t.cast cfg0_N) = 7 ∧ t.val = 0 := by
  revert t; decide
/-- Every batch's settling point is a write-back of its block. -/
theorem flush_settle (p : Fin 8) (t : Fin cfg0.N) (h : settlePt p = t.val) :
    (cfg0.win 3).flush t = true ∧ outIx (t.cast cfg0_N) = p := by
  revert p t; decide

theorem settles_of (t : Fin cfg0.N) (p : Fin 8) (h : settlePt p = t.val) : settles t p := by
  unfold settlePt at h; unfold settles
  split at h <;> omega

/-- Where an element of the output's block lies in the array. -/
theorem out_emb (t : Fin cfg0.N) (y : S1x8x16x128.Idx) :
    ((cfg0.win 3).blk t).view.emb y = (ix4 (outIx (t.cast cfg0_N)) (y 1 : Fin 8) (y 2 : Fin 16) (y 3 : Fin 128) : S8x8x16x128.Idx) := by
  funext a
  refine Fin.ext ?_
  refine (Pipeline.Window.rect_emb_val (cfg0.win 3) t y a).trans ?_
  rw [index_out t a]
  have h0 : (y 0).val = 0 := by have := (y 0).isLt; change (y 0).val < 1 at this; omega
  fin_cases a
  · show (outIx (t.cast cfg0_N)).val * 1 + (y 0).val = (outIx (t.cast cfg0_N)).val
    omega
  · show 0 * 8 + (y 1).val = (y 1).val
    omega
  · show 0 * 16 + (y 2).val = (y 2).val
    omega
  · show 0 * 128 + (y 3).val = (y 3).val
    omega

/-- After the write-backs below `n`, the batches settled below `n` are final. -/
theorem out_upto (c : Dev nD) : ∀ (n : ℕ) (G : S8x8x16x128.Idx → Elt F .f32), (rdat m c).ArrAt 3 n G →
    ∀ x : S8x8x16x128.Idx, settlePt (x 0 : Fin 8) < n → n ≤ 16 → G x = outArr m c x
  | 0, _, _, _, h, _ => absurd h (Nat.not_lt_zero _)
  | n + 1, G, hG, x, hx, hn => by
    have hnN : n < cfg0.N := by rw [cfg0_N]; omega
    have hstep : (if h : n < cfg0.N then (if (cfg0.win 3).flush ⟨n, h⟩ then (rdat m c).ArrStep 3 ⟨n, h⟩ ((rdat m c).ArrAt 3 n)
        else (rdat m c).ArrAt 3 n) else (rdat m c).ArrAt 3 n) G := hG
    rw [dif_pos hnN] at hstep
    by_cases hf : (cfg0.win 3).flush ⟨n, hnN⟩ = true
    · rw [if_pos hf] at hstep
      obtain ⟨G₀, X, h0, ⟨Y, -, hX⟩, rfl⟩ := hstep
      by_cases hb : outIx (Fin.cast cfg0_N ⟨n, hnN⟩) = (x 0 : Fin 8)
      · have he : ((cfg0.win 3).blk ⟨n, hnN⟩).view.emb (ix4 (0 : Fin 1) (x 1 : Fin 8) (x 2 : Fin 16) (x 3 : Fin 128) : S1x8x16x128.Idx) = x := by
          rw [out_emb, hb]
          funext a
          fin_cases a <;> rfl
        have hs : settlePt (x 0 : Fin 8) = n := by
          rcases flush_out ⟨n, hnN⟩ hf with h | ⟨h7, h0'⟩
          · rw [hb] at h; exact h
          · rw [hb] at h7
            have e0 : n = 0 := h0'
            rw [h7, e0] at hx
            exact absurd hx (by decide)
        refine (write_at ((cfg0.win 3).blk ⟨n, hnN⟩).view G₀ _ he).trans ?_
        have hXe : X = outB m c (x 0 : Fin 8) := hX (x 0 : Fin 8) (settles_of ⟨n, hnN⟩ _ hs)
        rw [hXe]
        rfl
      · have hne : settlePt (x 0 : Fin 8) ≠ n := fun e => hb (flush_settle _ ⟨n, hnN⟩ e).2
        have hout : x ∉ ((cfg0.win 3).blk ⟨n, hnN⟩).view.setOn Finset.univ := by
          intro hmem
          obtain ⟨y, -, hy⟩ := Finset.mem_map.mp hmem
          refine hb ?_
          rw [← hy]
          have := out_emb (⟨n, hnN⟩ : Fin cfg0.N) y
          exact (congrFun this 0).symm
        refine (View.write_of_not_mem _ _ _ hout).trans ?_
        exact out_upto c n G₀ h0 x (by omega) (by omega)
    · rw [if_neg hf] at hstep
      have hne : settlePt (x 0 : Fin 8) ≠ n := fun e => hf (flush_settle _ ⟨n, hnN⟩ e).1
      exact out_upto c n G hstep x (by omega) (by omega)

/-- After all of them the array is final. -/
theorem out_final (c : Dev nD) (G : S8x8x16x128.Idx → Elt F .f32) (h : (rdat m c).ArrAt 3 cfg0.N G) : G = outArr m c := by
  rw [cfg0_N] at h
  funext x
  refine out_upto m c 16 G h x ?_ le_rfl
  exact (show ∀ p : Fin 8, settlePt p < 16 from by decide) (x 0)

/-- Every weakly fair execution of @main from zero counters terminates with the result array holding, on every device, what
    the two partners' halves combine to; the arguments stay and every counter is zero. -/
theorem run_value (ρ : Dev nD → PrngReg) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v1) = outArr m c) ∧ r.2.sem = fun _ => 0) := by
  refine (θ_run defs _ _).mono (fun r h => ⟨fun c => ⟨?_, ?_, ?_, ?_⟩, h.2⟩) (run_arrays m ρ)
  · exact (congrFun ((rdat m c).ArrAt_in 0 rfl cfg0.N) _).mp (h.1 c 0)
  · exact (congrFun ((rdat m c).ArrAt_in 1 rfl cfg0.N) _).mp (h.1 c 1)
  · exact (congrFun ((rdat m c).ArrAt_in 2 rfl cfg0.N) _).mp (h.1 c 2)
  · exact out_final m c _ (h.1 c 3)

end Cert.KernelIdeal.Run

end
-- ==== Proof.Frames.lean ====
/-
# 01_k — `Frames`: the claims that need no values

The compiled kernel, its idealization and the reference run, keep their arguments and end with every counter at zero;
the idealization keeps the compiled kernel's one literal it names.
-/
module

public import proofs.«01_k».proof.Proof.Transfer
public import proofs.«01_k».proof.Proof.Value
public import proofs.«01_k».proof.Proof.Gen.ReferenceIdeal.Run

@[expose] public section

noncomputable section

namespace Cert.Proof

open Idealize.ShloMosaic Idealize.ShloMosaic.TcCoe Idealize.SL.Sem

/-- The idealized kernel runs on the exact values. -/
theorem frame_pi : Cert.quiescent_KernelIdeal := fun m g _ =>
  (θ_run Cert.KernelIdeal.defs _ _).mono (fun _ h => ⟨fun c => ⟨(h.1 c).1, (h.1 c).2.1, (h.1 c).2.2.1⟩, h.2⟩)
    (Cert.KernelIdeal.Run.run_value (F := Ideal) m g)

/-- The compiled kernel runs on machine floats. -/
theorem frame_p : Cert.quiescent_Kernel := Cert.Kernel.Transfer.kernel_runs fun m g =>
  (θ_run (@Cert.KernelIdeal.defs Bits _ Cert.Kernel.Transfer.asBits _) _ _).mono
    (fun _ h => ⟨fun c => ⟨(h.1 c).1, (h.1 c).2.1, (h.1 c).2.2.1⟩, h.2⟩)
    (@Cert.KernelIdeal.Run.run_value Bits _ Cert.Kernel.Transfer.asBits m g)

/-- The reference runs on the exact values. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The named scale is the real number its literal stands for: one over the root of 128, times the logarithm's base two of e. -/
theorem preserves : Cert.preserves_Kernel_KernelIdeal :=
  IdealRules.named_const.statement Cert.KernelIdeal.κ "scale2" .f32 0x3E0293EE#32 (((Real.sqrt 128)⁻¹ * (Real.log 2)⁻¹ : ℝ) : EReal) rfl

end Cert.Proof

end
-- ==== Proof.Finite.lean ====
/-
# 01_k — `Finite`: the precondition's meaning

The precondition asks the absolute value of every query and key element to be below infinity: on the exact values,
each of them is a real number.
-/
module

public import proofs.«01_k».proof.Pre_finite_qk_KernelIdeal
public import proofs.«01_k».proof.Pre_finite_qk_ReferenceIdeal
public import Idealize.ShloMosaic.Lib.Pointwise
public import Idealize.ShloMosaic.Lib.ReduceAll
public import Idealize.ShloMosaic.PureOps.Ideal.Laws

@[expose] public section

noncomputable section

namespace Cert.Finite

open Idealize.ShloMosaic

/-- The precondition's side conditions, at a device's blocks. -/
instance preKernel : Cert.Pre_finite_qk_KernelIdeal.Facts where
  bitsLt_bf16_f32 := by decide
  bcast_S_S8x8x16x128 := by decide
  reducesTo_S8x8x16x128_S_d0_1_2_3 := by decide
  h_S_ := by decide
  bcast_S_S8x1024x16x128 := by decide
  reducesTo_S8x1024x16x128_S_d0_1_2_3 := by decide

/-- The same, at the whole arrays. -/
instance preReference : Cert.Pre_finite_qk_ReferenceIdeal.Facts where
  bitsLt_bf16_f32 := by decide
  bcast_S_S8x8x16x128 := by decide
  reducesTo_S8x8x16x128_S_d0_1_2_3 := by decide
  h_S_ := by decide
  bcast_S_S8x2048x16x128 := by decide
  reducesTo_S8x2048x16x128_S_d0_1_2_3 := by decide

/-- The pattern the precondition compares with is +∞. -/
theorem bits_top : Ideal.ofBits .f32 0x7F800000#32 = (⊤ : EReal) := by simp [Ideal.ofBits, Ideal.ieee, -EReal.coe_mul]

/-- An extended real whose absolute value is below infinity is a real number. -/
theorem real_of_abs_lt {x : EReal} (h : max x (-x) < ⊤) : ((x.toReal : ℝ) : EReal) = x := by
  refine EReal.coe_toReal (fun hx => ?_) (fun hx => ?_)
  · rw [hx] at h
    simp at h
  · rw [hx] at h
    simp at h

instance : Subsingleton (Cert.Pre_finite_qk_KernelIdeal.S_).Idx := ⟨fun _ _ => funext fun a => Fin.elim0 a⟩

theorem real_qk (Q : FVec Ideal ⟨4, ![8, 8, 16, 128]⟩ .bf16) (K V : FVec Ideal ⟨4, ![8, 1024, 16, 128]⟩ .bf16)
    (H : Cert.Pre_finite_qk_KernelIdeal.fn (F := Ideal) Q K V = fun _ => 1#1) :
    (∀ i, (((show EReal from Q i).toReal : ℝ) : EReal) = Q i) ∧ (∀ i, (((show EReal from K i).toReal : ℝ) : EReal) = K i) := by
  obtain ⟨hQ, hK⟩ := IntOp.andi_eq_one.mp (congrFun H ix0)
  refine ⟨fun i => real_of_abs_lt ?_, fun i => real_of_abs_lt ?_⟩
  · have h := (Ideal.cmp_olt_eq_one _ _).mp (Host.reduce_andi_all _ _ _ _ _ hQ i)
    rw [← bits_top]
    exact h
  · have h := (Ideal.cmp_olt_eq_one _ _).mp (Host.reduce_andi_all _ _ _ _ _ hK i)
    rw [← bits_top]
    exact h

end Cert.Finite

end
-- ==== Proof.Blocks.lean ====
/-
# 01_k — `Blocks`: the blocks a grid point reads

A grid point reads eight heads of one batch of its device's queries, keys and values; at an index each block is the
device's array at the head the point and the block's own coordinate name.
-/
module

public import proofs.«01_k».proof.Proof.Value
public import Idealize.ShloMosaic.Lib.Pointwise

@[expose] public section

noncomputable section

namespace Cert.KernelIdeal.Run

open Cert.KernelIdeal Cert.KernelIdeal.Gen
open Idealize.ShloMosaic Idealize.ShloMosaic.TcCoe

section AnyFloat

variable {F : FTy → Type} [FloatOps F] [Named F] (m : (ℓ : Loc nD τ sig) → Buf (Elt F) ℓ)

/-- Device `c`'s arrays: its queries, and its half of the keys and of the values. -/
def argQ (c : Dev nD) : S8x8x16x128.Idx → Elt F .bf16 := m ((c.tc : Thread nD τ).loc main_arg0)
def argK (c : Dev nD) : S8x1024x16x128.Idx → Elt F .bf16 := m ((c.tc : Thread nD τ).loc main_arg1)
def argV (c : Dev nD) : S8x1024x16x128.Idx → Elt F .bf16 := m ((c.tc : Thread nD τ).loc main_arg2)

/-- The inputs' block indices at a grid point: the batch, and the half of the heads. -/
theorem index_Q (t : Fin cfg0.N) : ∀ a : Fin 4, (cfg0.win 0).index t a
    = if a = 0 then t.val / 2 else if a = 2 then t.val % 2 else 0 := by
  revert t; decide

theorem index_K (t : Fin cfg0.N) : ∀ a : Fin 4, (cfg0.win 1).index t a
    = if a = 0 then t.val / 2 else if a = 2 then t.val % 2 else 0 := by
  revert t; decide

theorem index_V (t : Fin cfg0.N) : ∀ a : Fin 4, (cfg0.win 2).index t a
    = if a = 0 then t.val / 2 else if a = 2 then t.val % 2 else 0 := by
  revert t; decide

theorem qB_at (c : Dev nD) (b : Fin 8) (h : Fin 16) (q : Fin 8) (x : Fin 128) :
    qB m c (pt b (hHalf h)) (ix4 (0 : Fin 1) q (hIn h) x) = argQ m c (ix4 b q h x) := by
  refine congrArg (argQ m c) (funext fun a => Fin.ext ((Pipeline.Window.rect_emb_val (cfg0.win 0) _ _ a).trans ?_))
  rw [index_Q _ a]
  fin_cases a
  · show (2 * b.val + h.val / 8) / 2 * 1 + 0 = b.val
    omega
  · show 0 * 8 + q.val = q.val
    omega
  · show (2 * b.val + h.val / 8) % 2 * 8 + h.val % 8 = h.val
    omega
  · show 0 * 128 + x.val = x.val
    omega

theorem kB_at (c : Dev nD) (b : Fin 8) (h : Fin 16) (k : Fin 1024) (x : Fin 128) :
    kB m c (pt b (hHalf h)) (ix4 (0 : Fin 1) k (hIn h) x) = argK m c (ix4 b k h x) := by
  refine congrArg (argK m c) (funext fun a => Fin.ext ((Pipeline.Window.rect_emb_val (cfg0.win 1) _ _ a).trans ?_))
  rw [index_K _ a]
  fin_cases a
  · show (2 * b.val + h.val / 8) / 2 * 1 + 0 = b.val
    omega
  · show 0 * 1024 + k.val = k.val
    omega
  · show (2 * b.val + h.val / 8) % 2 * 8 + h.val % 8 = h.val
    omega
  · show 0 * 128 + x.val = x.val
    omega

theorem vB_at (c : Dev nD) (b : Fin 8) (h : Fin 16) (k : Fin 1024) (x : Fin 128) :
    vB m c (pt b (hHalf h)) (ix4 (0 : Fin 1) k (hIn h) x) = argV m c (ix4 b k h x) := by
  refine congrArg (argV m c) (funext fun a => Fin.ext ((Pipeline.Window.rect_emb_val (cfg0.win 2) _ _ a).trans ?_))
  rw [index_V _ a]
  fin_cases a
  · show (2 * b.val + h.val / 8) / 2 * 1 + 0 = b.val
    omega
  · show 0 * 1024 + k.val = k.val
    omega
  · show (2 * b.val + h.val / 8) % 2 * 8 + h.val % 8 = h.val
    omega
  · show 0 * 128 + x.val = x.val
    omega

end AnyFloat

end Cert.KernelIdeal.Run

end
-- ==== Proof.Partial.lean ====
/-
# 01_k — `Partial`: what a device keeps of its half of the keys, on the exact values

Per batch, head and query a device keeps the greatest scaled score over its keys, the sum of the exponentials of the
others' distances to it, and the values so weighted. The output combines a device's three with its peer's.
-/
module

public import proofs.«01_k».proof.Proof.Blocks
public import Idealize.ShloMosaic.PureOps.Ideal.Laws

@[expose] public section

noncomputable section

namespace Cert.KernelIdeal.Run

open Cert.KernelIdeal Cert.KernelIdeal.Gen
open Idealize.ShloMosaic Idealize.ShloMosaic.TcCoe

/-- The pattern of the greatest element's starting value is -∞. -/
theorem bits_bot : Ideal.ofBits .f32 0xFF800000#32 = (⊥ : EReal) := by simp [Ideal.ofBits, Ideal.ieee, -EReal.coe_mul]

/-- The scale the scores carry: the softmax's own, over log 2, as the exponentials are to base two. -/
theorem scale_eq : (Named.named (F := Ideal) κ "scale2" (φ := .f32) 0x3E0293EE#32 : EReal)
    = (((Real.sqrt 128)⁻¹ * (Real.log 2)⁻¹ : ℝ) : EReal) :=
  IdealRules.named_const.ideal_named_scalar _ _ _ _ rfl

/-! ## The body's values at an index -/

section Payloads

theorem scaled_at (k : Vec Ideal S1x1024x8x128 .bf16) (q : Vec Ideal S1x8x8x128 .bf16) (h : Fin 8) (a : Fin 8) (b : Fin 1024) :
    k0_pay29 k q (ix3 h a b)
      = (∑ x : Fin 128, q (ix4 (0 : Fin 1) a h x) * k (ix4 (0 : Fin 1) b h x)) * Named.named (F := Ideal) κ "scale2" (φ := .f32) 0x3E0293EE#32 := by
  unfold k0_pay29
  pointwise

theorem peak_at (k : Vec Ideal S1x1024x8x128 .bf16) (q : Vec Ideal S1x8x8x128 .bf16) (h : Fin 8) (a : Fin 8) :
    k0_pay30 k q (ix2 h a) = Finset.univ.fold max (Ideal.ofBits .f32 0xFF800000#32) (fun x : Fin 1024 => k0_pay29 k q (ix3 h a x)) := by
  pointwise [k0_pay30]

theorem spread_at (k : Vec Ideal S1x1024x8x128 .bf16) (q : Vec Ideal S1x8x8x128 .bf16) (h : Fin 8) (a : Fin 8) (b : Fin 1024) :
    k0_pay31 k q (ix3 h a b) = k0_pay30 k q (ix2 h a) := by
  unfold k0_pay31
  pointwise

theorem mass_at (v27 v30 : Vec Ideal S8x8x1024 .f32) (h a : Fin 8) :
    k0_pay6 (F := Ideal) v27 v30 (ix4 (0 : Fin 1) (0 : Fin 1) h a) = ∑ x : Fin 1024, Ideal.exp2 (v27 (ix3 h a x) - v30 (ix3 h a x)) := by
  unfold k0_pay6 k0_pay2 k0_pay1
  pointwise
  rfl

theorem weighted_at (v21 : Vec Ideal S8x1024x128 .bf16) (v27 v30 : Vec Ideal S8x8x1024 .f32) (h a : Fin 8) (b : Fin 128) :
    k0_pay4 (F := Ideal) v21 v27 v30 (ix4 (0 : Fin 1) a h b)
      = ∑ x : Fin 1024, Ideal.exp2 (v27 (ix3 h a x) - v30 (ix3 h a x)) * v21 (ix3 h x b) := by
  unfold k0_pay4 k0_pay3 k0_pay1
  pointwise
  rfl

theorem values_at (v : Vec Ideal S1x1024x8x128 .bf16) (h : Fin 8) (a : Fin 1024) (b : Fin 128) :
    k0_pay28 v (ix3 h a b) = v (ix4 (0 : Fin 1) a h b) := by
  unfold k0_pay28
  pointwise

theorem keep_at (v : Vec Ideal S8x8 .f32) (h a : Fin 8) : k0_pay5 (F := Ideal) v (ix4 (0 : Fin 1) (0 : Fin 1) h a) = v (ix2 h a) := by
  unfold k0_pay5
  pointwise

theorem combine_at (f f' : S8x2x16x8.Idx → Elt Ideal .f32) (g g' : S8x8x16x128.Idx → Elt Ideal .bf16) (b : Fin 8) (q : Fin 8) (h : Fin 16) (d : Fin 128) :
    combine f f' g g' b (ix4 (0 : Fin 1) q h d)
      = Ideal.div
          (g (ix4 b q h d) * Ideal.exp2 (f (ix4 b (0 : Fin 2) h q) - max (f (ix4 b (0 : Fin 2) h q)) (f' (ix4 b (0 : Fin 2) h q)))
            + g' (ix4 b q h d) * Ideal.exp2 (f' (ix4 b (0 : Fin 2) h q) - max (f (ix4 b (0 : Fin 2) h q)) (f' (ix4 b (0 : Fin 2) h q))))
          (f (ix4 b (1 : Fin 2) h q) * Ideal.exp2 (f (ix4 b (0 : Fin 2) h q) - max (f (ix4 b (0 : Fin 2) h q)) (f' (ix4 b (0 : Fin 2) h q)))
            + f' (ix4 b (1 : Fin 2) h q) * Ideal.exp2 (f' (ix4 b (0 : Fin 2) h q) - max (f (ix4 b (0 : Fin 2) h q)) (f' (ix4 b (0 : Fin 2) h q)))) := by
  unfold combine cutA cutM k0_pay7 k0_pay14 k0_pay15 k0_pay16 k0_pay12 k0_pay13 k0_pay11 k0_pay9 k0_pay10
  simp only [← ix4_eq_valueIdx]
  pointwise
  rfl

end Payloads

/-! ## A device's three quantities -/

variable (m : (ℓ : Loc nD τ sig) → Buf (Elt Ideal) ℓ)

/-- The unscaled score of query `q` against the device's key `k`. -/
def score (c : Dev nD) (b : Fin 8) (h : Fin 16) (q : Fin 8) (k : Fin 1024) : EReal :=
  ∑ x : Fin 128, argQ m c (ix4 b q h x) * argK m c (ix4 b k h x)

/-- The scaled score, to base two. -/
def scaled (c : Dev nD) (b : Fin 8) (h : Fin 16) (q : Fin 8) (k : Fin 1024) : EReal :=
  score m c b h q k * (((Real.sqrt 128)⁻¹ * (Real.log 2)⁻¹ : ℝ) : EReal)

/-- The greatest of them over the device's keys. -/
def peakOf (c : Dev nD) (b : Fin 8) (h : Fin 16) (q : Fin 8) : EReal := Finset.univ.fold max ⊥ (scaled m c b h q)

theorem scaled_block (c : Dev nD) (b : Fin 8) (h : Fin 16) (q : Fin 8) (k : Fin 1024) :
    k0_pay29 (kB m c (pt b (hHalf h))) (qB m c (pt b (hHalf h))) (ix3 (hIn h) q k) = scaled m c b h q k := by
  rw [scaled_at, scale_eq]
  simp only [qB_at, kB_at]
  rfl

theorem peak_block (c : Dev nD) (b : Fin 8) (h : Fin 16) (q : Fin 8) :
    k0_pay30 (kB m c (pt b (hHalf h))) (qB m c (pt b (hHalf h))) (ix2 (hIn h) q) = peakOf m c b h q := by
  rw [peak_at, bits_bot]
  simp only [scaled_block]
  rfl

theorem mlF_peak (c : Dev nD) (b : Fin 8) (h : Fin 16) (q : Fin 8) : mlF m c (ix4 b (0 : Fin 2) h q) = peakOf m c b h q := by
  refine (if_pos rfl).trans ?_
  show mAt m c (pt b (hHalf h)) (ValueIdx.ix4 (0 : Fin 1) (0 : Fin 1) (hIn h) q) = _
  rw [← ix4_eq_valueIdx]
  exact (keep_at _ _ _).trans (peak_block m c b h q)

theorem mlF_mass (c : Dev nD) (b : Fin 8) (h : Fin 16) (q : Fin 8) :
    mlF m c (ix4 b (1 : Fin 2) h q) = ∑ k : Fin 1024, Ideal.exp2 (scaled m c b h q k - peakOf m c b h q) := by
  refine (if_neg (show ¬ ((1 : Fin 2) : ℕ) = 0 by decide)).trans ?_
  show lAt m c (pt b (hHalf h)) (ValueIdx.ix4 (0 : Fin 1) (0 : Fin 1) (hIn h) q) = _
  rw [← ix4_eq_valueIdx]
  refine (mass_at _ _ _ _).trans ?_
  simp only [scaled_block, spread_at, peak_block]

theorem accF_at (c : Dev nD) (b : Fin 8) (h : Fin 16) (q : Fin 8) (d : Fin 128) :
    accF m c (ix4 b q h d) = ∑ k : Fin 1024, Ideal.exp2 (scaled m c b h q k - peakOf m c b h q) * argV m c (ix4 b k h d) := by
  show pvAt m c (pt b (hHalf h)) (ValueIdx.ix4 (0 : Fin 1) q (hIn h) d) = _
  rw [← ix4_eq_valueIdx]
  refine (weighted_at _ _ _ _ _ _).trans ?_
  simp only [scaled_block, spread_at, peak_block, values_at, vB_at]

/-- The output at an index, from the two devices' quantities. -/
theorem outArr_at (c : Dev nD) (b : Fin 8) (q : Fin 8) (h : Fin 16) (d : Fin 128) :
    outArr m c (ix4 b q h d) = combine (mlF m c) (mlF m (peer c)) (accF m c) (accF m (peer c)) b (ix4 (0 : Fin 1) q h d) := by
  rw [ix4_eq_valueIdx (0 : Fin 1) q h d]
  rfl

end Cert.KernelIdeal.Run

end
-- ==== Proof.Blend.lean ====
/-
# 01_k — `Blend`: attention over two halves of the keys, on the exact values

Scores are real numbers, values any extended reals. Each half keeps the scores' maximum, the sum of the exponentials
below it and the values so weighted, in base two; the two halves' weights and sums are brought to the common maximum
and added. That is the softmax over all the keys: a positive real factor goes through a sum of extended reals.
-/
module

public import Idealize.ShloMosaic.PureOps.Ideal
public import Idealize.ShloMosaic.Lib.Pointwise.Sums
public import Mathlib.Analysis.SpecialFunctions.Pow.Real

@[expose] public section

noncomputable section

namespace Cert.Blend

open Idealize.ShloMosaic

variable {ι κ : Type} [Fintype ι] [Nonempty ι] [Fintype κ]

/-- The greatest of finitely many real numbers. -/
def peak (x : ι → ℝ) : ℝ := Finset.univ.sup' Finset.univ_nonempty x

theorem le_peak (x : ι → ℝ) (k : ι) : x k ≤ peak x := Finset.le_sup' x (Finset.mem_univ k)
theorem peak_le {x : ι → ℝ} {M : ℝ} (h : ∀ k, x k ≤ M) : peak x ≤ M := Finset.sup'_le _ _ fun k _ => h k

/-- The maximum folded from minus infinity over extended reals that are real. -/
theorem fold_max_coe (x : ι → ℝ) : Finset.univ.fold max (⊥ : EReal) (fun k => (x k : EReal)) = (peak x : EReal) := by
  refine le_antisymm ?_ ?_
  · exact Finset.fold_max_le _ |>.mpr ⟨bot_le, fun k _ => EReal.coe_le_coe_iff.mpr (le_peak x k)⟩
  · obtain ⟨k, -, hk⟩ := Finset.exists_mem_eq_sup' (Finset.univ_nonempty (α := ι)) x
    unfold peak
    rw [hk]
    exact (Finset.le_fold_max _).mpr (Or.inr ⟨k, Finset.mem_univ k, le_rfl⟩)

/-- A nonnegative factor goes through the greatest. -/
theorem peak_mul (x : ι → ℝ) {a : ℝ} (ha : 0 ≤ a) : peak (fun k => x k * a) = peak x * a := by
  refine le_antisymm (peak_le fun k => mul_le_mul_of_nonneg_right (le_peak x k) ha) ?_
  obtain ⟨k, -, hk⟩ := Finset.exists_mem_eq_sup' (Finset.univ_nonempty (α := ι)) x
  have h : peak x = x k := hk
  rw [h]
  exact le_peak (fun k => x k * a) k

/-- A finite sum of reals, as extended reals. -/
theorem coe_sum (f : κ → ℝ) : ((∑ k, f k : ℝ) : EReal) = ∑ k, (f k : EReal) := map_sum (⟨⟨Real.toEReal, rfl⟩, EReal.coe_add⟩ : ℝ →+ EReal) f Finset.univ

/-- A nonnegative real factor goes through a finite sum of extended reals. -/
theorem sum_mul (f : κ → EReal) {a : ℝ} (ha : 0 ≤ a) : (∑ k, f k) * (a : EReal) = ∑ k, f k * (a : EReal) :=
  map_sum (⟨⟨fun z : EReal => z * (a : EReal), zero_mul _⟩,
    fun y z => EReal.right_distrib_of_nonneg_of_ne_top (EReal.coe_nonneg.mpr ha) (EReal.coe_ne_top a) y z⟩ : EReal →+ EReal) f Finset.univ

theorem add_mul (y z : EReal) {a : ℝ} (ha : 0 ≤ a) : (y + z) * (a : EReal) = y * (a : EReal) + z * (a : EReal) :=
  EReal.right_distrib_of_nonneg_of_ne_top (EReal.coe_nonneg.mpr ha) (EReal.coe_ne_top a) y z

/-- The base-two exponential of a real over the logarithm of two is the exponential. -/
theorem exp2_log (r : ℝ) : Ideal.exp2 ((r * (Real.log 2)⁻¹ : ℝ) : EReal) = (Real.exp r : EReal) := by
  rw [Ideal.exp2_coe]
  congr 1
  show (2 : ℝ) ^ (r * (Real.log 2)⁻¹) = Real.exp r
  rw [Real.rpow_def_of_pos (by norm_num)]
  congr 1
  have : Real.log 2 ≠ 0 := (Real.log_pos (by norm_num)).ne'
  field_simp

/-- The weights of both halves' keys, brought to the common maximum and divided by their sum, over the values. -/
def blend (xa xb : ι → ℝ) (va vb : ι → EReal) : EReal :=
  (∑ k, ((Real.exp (xa k - max (peak xa) (peak xb))
      * (1 / ((∑ k, Real.exp (xa k - max (peak xa) (peak xb))) + ∑ k, Real.exp (xb k - max (peak xa) (peak xb)))) : ℝ) : EReal) * va k)
  + ∑ k, ((Real.exp (xb k - max (peak xa) (peak xb))
      * (1 / ((∑ k, Real.exp (xa k - max (peak xa) (peak xb))) + ∑ k, Real.exp (xb k - max (peak xa) (peak xb)))) : ℝ) : EReal) * vb k

/-- Which half comes first does not matter. -/
theorem blend_comm (xa xb : ι → ℝ) (va vb : ι → EReal) : blend xa xb va vb = blend xb xa vb va := by
  unfold blend
  rw [max_comm (peak xb) (peak xa), _root_.add_comm (∑ k, Real.exp (xb k - _)) (∑ k, Real.exp (xa k - _))]
  exact _root_.add_comm _ _

theorem norm_pos (xa xb : ι → ℝ) (M : ℝ) : 0 < (∑ k, Real.exp (xa k - M)) + ∑ k, Real.exp (xb k - M) :=
  _root_.add_pos (Finset.sum_pos (fun k _ => Real.exp_pos _) Finset.univ_nonempty) (Finset.sum_pos (fun k _ => Real.exp_pos _) Finset.univ_nonempty)

/-! ## The kernel's spelling -/

/-- A half's maximum in base two. -/
theorem half_max (x : ι → ℝ) {s : ℝ} (hs : 0 ≤ s) :
    Finset.univ.fold max (⊥ : EReal) (fun k => (x k : EReal) * ((s * (Real.log 2)⁻¹ : ℝ) : EReal))
      = ((peak (fun k => x k * s) * (Real.log 2)⁻¹ : ℝ) : EReal) := by
  have hl : (0 : ℝ) ≤ (Real.log 2)⁻¹ := inv_nonneg.mpr (Real.log_pos (by norm_num)).le
  simp only [← EReal.coe_mul]
  rw [fold_max_coe, peak_mul x (mul_nonneg hs hl), peak_mul x hs, mul_assoc]

/-- A half's weight of one key. -/
theorem half_weight (x s μ : ℝ) :
    Ideal.exp2 ((x : EReal) * ((s * (Real.log 2)⁻¹ : ℝ) : EReal) - ((μ * (Real.log 2)⁻¹ : ℝ) : EReal)) = (Real.exp (x * s - μ) : EReal) := by
  rw [← EReal.coe_mul, ← EReal.coe_sub, ← exp2_log]
  congr 2
  ring

/-- The factor that brings a half from its maximum to the common one. -/
theorem half_factor (μ ν : ℝ) :
    Ideal.exp2 (((μ * (Real.log 2)⁻¹ : ℝ) : EReal) - max ((μ * (Real.log 2)⁻¹ : ℝ) : EReal) ((ν * (Real.log 2)⁻¹ : ℝ) : EReal)) = (Real.exp (μ - max μ ν) : EReal) := by
  have hl : (0 : ℝ) ≤ (Real.log 2)⁻¹ := inv_nonneg.mpr (Real.log_pos (by norm_num)).le
  rw [← EReal.coe_strictMono.monotone.map_max, ← max_mul_of_nonneg _ _ hl, ← EReal.coe_sub, ← sub_mul, exp2_log]

/-- One half's weighted values brought to the maximum `M`. -/
theorem half_values (x : ι → ℝ) (v : ι → EReal) (μ M : ℝ) :
    (∑ k, (Real.exp (x k - μ) : EReal) * v k) * (Real.exp (μ - M) : EReal) = ∑ k, (Real.exp (x k - M) : EReal) * v k := by
  rw [sum_mul _ (Real.exp_pos _).le]
  refine Finset.sum_congr rfl fun k _ => ?_
  rw [mul_assoc, mul_comm (v k), ← mul_assoc, ← EReal.coe_mul, ← Real.exp_add,
    show x k - μ + (μ - M) = x k - M from by ring]

/-- One half's sum of weights brought to the maximum `M`. -/
theorem half_sum (x : ι → ℝ) (μ M : ℝ) :
    (∑ k, (Real.exp (x k - μ) : EReal)) * (Real.exp (μ - M) : EReal) = ((∑ k, Real.exp (x k - M) : ℝ) : EReal) := by
  rw [← coe_sum, ← EReal.coe_mul, Finset.sum_mul]
  congr 1
  refine Finset.sum_congr rfl fun k _ => ?_
  rw [← Real.exp_add]
  congr 1
  ring

/-- What the two halves' records combine to is the softmax over both. -/
theorem combined (xa xb : ι → ℝ) (va vb : ι → EReal) {s : ℝ} (hs : 0 ≤ s) {ma mb : EReal}
    (ha : ma = Finset.univ.fold max (⊥ : EReal) (fun k => (xa k : EReal) * ((s * (Real.log 2)⁻¹ : ℝ) : EReal)))
    (hb : mb = Finset.univ.fold max (⊥ : EReal) (fun k => (xb k : EReal) * ((s * (Real.log 2)⁻¹ : ℝ) : EReal))) :
    Ideal.div
      ((∑ k, Ideal.exp2 ((xa k : EReal) * ((s * (Real.log 2)⁻¹ : ℝ) : EReal) - ma) * va k) * Ideal.exp2 (ma - max ma mb)
        + (∑ k, Ideal.exp2 ((xb k : EReal) * ((s * (Real.log 2)⁻¹ : ℝ) : EReal) - mb) * vb k) * Ideal.exp2 (mb - max ma mb))
      ((∑ k, Ideal.exp2 ((xa k : EReal) * ((s * (Real.log 2)⁻¹ : ℝ) : EReal) - ma)) * Ideal.exp2 (ma - max ma mb)
        + (∑ k, Ideal.exp2 ((xb k : EReal) * ((s * (Real.log 2)⁻¹ : ℝ) : EReal) - mb)) * Ideal.exp2 (mb - max ma mb))
      = blend (fun k => xa k * s) (fun k => xb k * s) va vb := by
  rw [half_max xa hs] at ha
  rw [half_max xb hs] at hb
  subst ha hb
  rw [half_factor, max_comm (((peak fun k => xa k * s) * _ : ℝ) : EReal), half_factor, max_comm (peak fun k => xb k * s)]
  simp only [half_weight]
  rw [half_values (fun k => xa k * s), half_values (fun k => xb k * s), half_sum (fun k => xa k * s), half_sum (fun k => xb k * s),
    ← EReal.coe_add, Ideal.div_coe (norm_pos (fun k => xa k * s) (fun k => xb k * s) _).ne']
  have hpos := one_div_nonneg.mpr (norm_pos (fun k => xa k * s) (fun k => xb k * s) (max (peak fun k => xa k * s) (peak fun k => xb k * s))).le
  rw [add_mul _ _ hpos, sum_mul _ hpos, sum_mul _ hpos]
  unfold blend
  refine congrArg₂ _ (Finset.sum_congr rfl fun k _ => ?_) (Finset.sum_congr rfl fun k _ => ?_) <;>
    rw [mul_assoc, mul_comm _ ((1 / _ : ℝ) : EReal), ← mul_assoc, ← EReal.coe_mul]

/-! ## The plain spelling -/

/-- The softmax over both halves, written over one index of `n + n` keys. -/
theorem plain {n N : ℕ} [NeZero n] (hN : n + n = N) (x : Fin N → ℝ) (v : Fin N → EReal) {M : EReal}
    (hM : M = Finset.univ.fold max (⊥ : EReal) fun k => (x k : EReal)) :
    ∑ k, v k * Ideal.div (Ideal.exp ((x k : EReal) - M)) (∑ k, Ideal.exp ((x k : EReal) - M))
      = blend (fun k : Fin n => x ⟨k.val, by omega⟩) (fun k : Fin n => x ⟨n + k.val, by omega⟩)
          (fun k : Fin n => v ⟨k.val, by omega⟩) (fun k : Fin n => v ⟨n + k.val, by omega⟩) := by
  have hn : 0 < n := Nat.pos_of_ne_zero (NeZero.ne n)
  haveI : NeZero N := ⟨by omega⟩
  have hp : peak x = max (peak fun k : Fin n => x ⟨k.val, by omega⟩) (peak fun k : Fin n => x ⟨n + k.val, by omega⟩) := by
    refine le_antisymm (peak_le fun k => ?_) (max_le (peak_le fun k => le_peak x _) (peak_le fun k => le_peak x _))
    by_cases hk : k.val < n
    · exact (le_peak (fun k : Fin n => x ⟨k.val, by omega⟩) ⟨k.val, hk⟩).trans (le_max_left _ _)
    · refine le_trans (le_of_eq ?_) ((le_peak (fun k : Fin n => x ⟨n + k.val, by omega⟩) ⟨k.val - n, by omega⟩).trans (le_max_right _ _))
      exact congrArg x (Fin.ext (by show k.val = n + (k.val - n); omega))
  rw [fold_max_coe, hp] at hM
  subst hM
  simp only [← EReal.coe_sub, Ideal.exp_coe]
  rw [← coe_sum, Fin.sum_univ_two_halves n n hN fun k : Fin N => Real.exp (x k - _)]
  simp only [Ideal.div_coe (norm_pos (fun k : Fin n => x ⟨k.val, by omega⟩) (fun k : Fin n => x ⟨n + k.val, by omega⟩) _).ne']
  rw [Fin.sum_univ_two_halves n n hN]
  unfold blend
  refine congrArg₂ _ (Finset.sum_congr rfl fun k _ => ?_) (Finset.sum_congr rfl fun k _ => ?_) <;>
    rw [mul_comm (v _), ← EReal.coe_mul]

end Cert.Blend

end
-- ==== Proof.Reference.lean ====
/-
# 01_k — `Reference`: the reference at an index, on the exact values

The reference's scale is one over the root of 128; its result at an index is the softmax of the scaled scores over all
2048 keys against the values.
-/
module

public import proofs.«01_k».proof.Proof.Gen.ReferenceIdeal.Run
public import Idealize.ShloMosaic.Lib.Pointwise
public import Idealize.ShloMosaic.Lib.IdealHost
public import Idealize.ShloMosaic.PureOps.Ideal.Laws

@[expose] public section

noncomputable section

namespace Cert.ReferenceIdeal.Value

open Cert.ReferenceIdeal Cert.ReferenceIdeal.Gen
open Idealize.ShloMosaic Idealize.ShloMosaic.TcCoe Idealize.SL.Sem

theorem bits_bot : Ideal.ofBits .f32 0xFF800000#32 = (⊥ : EReal) := by simp [Ideal.ofBits, Ideal.ieee, -EReal.coe_mul]

/-- One over the root of 128, as the reference spells it. -/
theorem scale_eq : Ideal.div 1 (Ideal.sqrt (Ideal.ofBits .f32 0x43000000#32)) = (((Real.sqrt 128)⁻¹ : ℝ) : EReal) := by
  have h : Ideal.ofBits .f32 0x43000000#32 = ((128 : ℝ) : EReal) := by
    simp [Ideal.ofBits, Ideal.ieee, -EReal.coe_mul]
    norm_num
  rw [h, Ideal.sqrt_coe, if_neg (by norm_num), Ideal.div_coe (Real.sqrt_ne_zero'.mpr (by norm_num)), one_mul, one_div]

variable (Q : S8x8x16x128.Idx → EReal) (K V : S8x2048x16x128.Idx → EReal)

/-- The scaled score of query `q` against key `k` of all. -/
def whole (b : Fin 8) (h : Fin 16) (q : Fin 8) (k : Fin 2048) : EReal :=
  (∑ x : Fin 128, Q (ix4 b q h x) * K (ix4 b k h x)) * (((Real.sqrt 128)⁻¹ : ℝ) : EReal)

/-- Attention at an index: the values by the softmax of the scores. -/
def attend (b : Fin 8) (q : Fin 8) (h : Fin 16) (d : Fin 128) : EReal :=
  ∑ k : Fin 2048, V (ix4 b k h d) * Ideal.div (Ideal.exp (whole Q K b h q k - Finset.univ.fold max ⊥ (whole Q K b h q)))
    (∑ k : Fin 2048, Ideal.exp (whole Q K b h q k - Finset.univ.fold max ⊥ (whole Q K b h q)))

set_option maxHeartbeats 2000000 in
/-- The reference ends with attention in its result, and its arguments as they were. -/
theorem run_attend (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ b q h d, (r.2.mem ((c.tc : Thread nD τ).loc main_v18) : S8x8x16x128.Idx → EReal) (ix4 b q h d)
        = attend (m ((c.tc : Thread nD τ).loc main_arg0)) (m ((c.tc : Thread nD τ).loc main_arg1)) (m ((c.tc : Thread nD τ).loc main_arg2)) b q h d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨fun b q n d => by
      refine (congrFun (h c).1 _).trans ?_
      generalize m ((c.tc : Thread nD τ).loc main_arg0) = Q
      generalize m ((c.tc : Thread nD τ).loc main_arg1) = K
      generalize m ((c.tc : Thread nD τ).loc main_arg2) = V
      pointwise
      rw [scale_eq, bits_bot]
      rfl, (h c).2⟩) (run (F := Ideal) m ρ)

end Cert.ReferenceIdeal.Value

end
-- ==== Proof.Algebraic.lean ====
/-
# 01_k — `Algebraic`: the kernel against the reference, on the exact values

A device holds half of the keys and of the values, its peer the other half. The output, a device's three quantities
combined with its peer's, is the blend of the two halves, which is the reference's attention over all the keys; the
blend is symmetric, so both devices of a pair come to the same.
-/
module

public import proofs.«01_k».proof.Defs
public import proofs.«01_k».proof.Proof.Partial
public import proofs.«01_k».proof.Proof.Blend
public import proofs.«01_k».proof.Proof.Reference
public import proofs.«01_k».proof.Proof.Finite
public import proofs.«01_k».proof.Proof.Frames

@[expose] public section

noncomputable section

namespace Cert.Proof

open Idealize.ShloMosaic Idealize.ShloMosaic.TcCoe Idealize.SL.Sem
open Cert.KernelIdeal Cert.KernelIdeal.Gen Cert.KernelIdeal.Run
open Cert.ReferenceIdeal.Value (whole attend run_attend)

section Values

variable (m : (ℓ : Loc nD τ sig) → Buf (Elt Ideal) ℓ)

/-- Of real queries and keys the scores are real. -/
theorem score_real (hQ : ∀ c i, ((argQ m c i : EReal).toReal : EReal) = argQ m c i)
    (hK : ∀ c i, ((argK m c i : EReal).toReal : EReal) = argK m c i) (c : Dev nD) (b : Fin 8) (h : Fin 16) (q : Fin 8) (k : Fin 1024) :
    (((score m c b h q k).toReal : ℝ) : EReal) = score m c b h q k := by
  have e : score m c b h q k = ((∑ x : Fin 128, (argQ m c (ix4 b q h x) : EReal).toReal * (argK m c (ix4 b k h x) : EReal).toReal : ℝ) : EReal) := by
    rw [Blend.coe_sum]
    refine Finset.sum_congr rfl fun x _ => ?_
    rw [EReal.coe_mul, hQ, hK]
  rw [e, EReal.toReal_coe]

/-- The output is the blend of a device's half and its peer's. -/
theorem out_blend (hQ : ∀ c i, ((argQ m c i : EReal).toReal : EReal) = argQ m c i)
    (hK : ∀ c i, ((argK m c i : EReal).toReal : EReal) = argK m c i) (c : Dev nD) (b : Fin 8) (q : Fin 8) (h : Fin 16) (d : Fin 128) :
    outArr m c (ix4 b q h d)
      = Blend.blend (fun k => (score m c b h q k).toReal * (Real.sqrt 128)⁻¹) (fun k => (score m (peer c) b h q k).toReal * (Real.sqrt 128)⁻¹)
          (fun k : Fin 1024 => argV m c (ix4 b k h d)) (fun k : Fin 1024 => argV m (peer c) (ix4 b k h d)) := by
  have hp : ∀ c, peakOf m c b h q = Finset.univ.fold max (⊥ : EReal)
      (fun k => (((score m c b h q k).toReal : ℝ) : EReal) * (((Real.sqrt 128)⁻¹ * (Real.log 2)⁻¹ : ℝ) : EReal)) := fun c => by
    simp only [score_real m hQ hK]
    rfl
  refine Eq.trans ?_ (Blend.combined _ _ _ _ (inv_nonneg.mpr (Real.sqrt_nonneg 128)) (hp c) (hp (peer c)))
  rw [outArr_at, combine_at]
  simp only [mlF_peak, mlF_mass, accF_at, score_real m hQ hK]
  rfl

variable (Q : ReferenceIdeal.S8x8x16x128.Idx → EReal) (K V : ReferenceIdeal.S8x2048x16x128.Idx → EReal)

/-- Two devices' halves of the whole arrays blended are the reference's attention. -/
theorem blend_attend (hQ : ∀ c i, ((argQ m c i : EReal).toReal : EReal) = argQ m c i)
    (hK : ∀ c i, ((argK m c i : EReal).toReal : EReal) = argK m c i)
    (c₀ c₁ : Dev nD) (hQc : ∀ c, argQ m c = Q)
    (hK₀ : ∀ b (k : Fin 1024) h x, argK m c₀ (ix4 b k h x) = K (ix4 b (⟨k.val, by omega⟩ : Fin 2048) h x))
    (hK₁ : ∀ b (k : Fin 1024) h x, argK m c₁ (ix4 b k h x) = K (ix4 b (⟨1024 + k.val, by omega⟩ : Fin 2048) h x))
    (hV₀ : ∀ b (k : Fin 1024) h x, argV m c₀ (ix4 b k h x) = V (ix4 b (⟨k.val, by omega⟩ : Fin 2048) h x))
    (hV₁ : ∀ b (k : Fin 1024) h x, argV m c₁ (ix4 b k h x) = V (ix4 b (⟨1024 + k.val, by omega⟩ : Fin 2048) h x))
    (b : Fin 8) (q : Fin 8) (h : Fin 16) (d : Fin 128) :
    Blend.blend (fun k => (score m c₀ b h q k).toReal * (Real.sqrt 128)⁻¹) (fun k => (score m c₁ b h q k).toReal * (Real.sqrt 128)⁻¹)
          (fun k : Fin 1024 => argV m c₀ (ix4 b k h d)) (fun k : Fin 1024 => argV m c₁ (ix4 b k h d))
      = attend Q K V b q h d := by
  have s₀ : ∀ k : Fin 1024, whole Q K b h q ⟨k.val, by omega⟩ = (((score m c₀ b h q k).toReal * (Real.sqrt 128)⁻¹ : ℝ) : EReal) := fun k => by
    rw [EReal.coe_mul, score_real m hQ hK]
    unfold score whole
    simp only [hQc, hK₀]
  have s₁ : ∀ k : Fin 1024, whole Q K b h q ⟨1024 + k.val, by omega⟩ = (((score m c₁ b h q k).toReal * (Real.sqrt 128)⁻¹ : ℝ) : EReal) := fun k => by
    rw [EReal.coe_mul, score_real m hQ hK]
    unfold score whole
    simp only [hQc, hK₁]
  have hx : ∀ k : Fin 2048, (((whole Q K b h q k).toReal : ℝ) : EReal) = whole Q K b h q k := fun k => by
    rcases Nat.lt_or_ge k.val 1024 with hk | hk
    · have e := s₀ ⟨k.val, hk⟩
      rw [show k = ⟨k.val, k.isLt⟩ from rfl, e, EReal.toReal_coe]
    · have e := s₁ ⟨k.val - 1024, by omega⟩
      rw [show k = ⟨1024 + (k.val - 1024), by omega⟩ from Fin.ext (by show k.val = 1024 + (k.val - 1024); omega), e, EReal.toReal_coe]
  have hplain := Blend.plain (n := 1024) (N := 2048) (by norm_num) (fun k => (whole Q K b h q k).toReal) (fun k => V (ix4 b k h d)) rfl
  simp only [hx, s₀, s₁, EReal.toReal_coe] at hplain
  simp only [hV₀, hV₁]
  exact hplain.symm

end Values

/-! ## The layout -/

/-- Along the keys, device `c`'s block is `c / 8`: the mesh's first axis. -/
theorem block_axis (c : Dev nD) : Layout.meshLin [2, 2, 4] c.val [0] = c.val / 8 := by revert c; decide

/-- The block of a whole array along the keys that device `c` holds. -/
abbrev half (c : Dev nD) (A : ReferenceIdeal.S8x2048x16x128.Idx → EReal) : S8x1024x16x128.Idx → EReal :=
  Layout.blockN ⟨4, ![8, 1024, 16, 128]⟩ ⟨4, ![8, 2048, 16, 128]⟩ (Layout.meshBlock [2, 2, 4] ![[], [0], [], []] c) A

theorem half_at (c : Dev nD) (A : ReferenceIdeal.S8x2048x16x128.Idx → EReal) (b : Fin 8) (k : Fin 1024) (h : Fin 16) (x : Fin 128)
    {j : ℕ} (hj : c.val / 8 * 1024 + k.val = j) (hl : j < 2048) : half c A (ix4 b k h x) = A (ix4 b (⟨j, hl⟩ : Fin 2048) h x) := by
  refine congrArg A (funext fun a => Fin.ext ?_)
  fin_cases a
  · show 0 * 8 + b.val = b.val
    omega
  · show Layout.meshLin [2, 2, 4] c.val [0] * 1024 + k.val = j
    rw [block_axis, hj]
  · show 0 * 16 + h.val = h.val
    omega
  · show 0 * 128 + x.val = x.val
    omega

theorem half_lo {c : Dev nD} (hc : c.val / 8 = 0) (A : ReferenceIdeal.S8x2048x16x128.Idx → EReal) (b : Fin 8) (k : Fin 1024) (h : Fin 16) (x : Fin 128) :
    half c A (ix4 b k h x) = A (ix4 b (⟨k.val, by omega⟩ : Fin 2048) h x) := half_at c A b k h x (by omega) _

theorem half_hi {c : Dev nD} (hc : c.val / 8 = 1) (A : ReferenceIdeal.S8x2048x16x128.Idx → EReal) (b : Fin 8) (k : Fin 1024) (h : Fin 16) (x : Fin 128) :
    half c A (ix4 b k h x) = A (ix4 b (⟨1024 + k.val, by omega⟩ : Fin 2048) h x) := half_at c A b k h x (by omega) _

theorem half_cases (c : Dev nD) : (c.val / 8 = 0 ∧ (peer c).val / 8 = 1) ∨ (c.val / 8 = 1 ∧ (peer c).val / 8 = 0) := by revert c; decide

/-! ## The claims -/

theorem frame_pi_pre : Cert.quiescent_KernelIdeal_pre_finite_qk_KernelIdeal := fun m g _ => frame_pi m g trivial
theorem frame_ri_pre : Cert.quiescent_ReferenceIdeal_pre_finite_qk_ReferenceIdeal := fun m g _ => frame_ri m g trivial

/-- On real queries and keys, every device ends with the reference's attention. -/
theorem algebraic : Cert.algebraic_KernelIdeal_ReferenceIdeal_pre_finite_qk_KernelIdeal := by
  intro m g m' g' hpre hblk
  have hQ : ∀ c i, ((argQ m c i : EReal).toReal : EReal) = argQ m c i := fun c => (Finite.real_qk _ _ _ (hpre c)).1
  have hK : ∀ c i, ((argK m c i : EReal).toReal : EReal) = argK m c i := fun c => (Finite.real_qk _ _ _ (hpre c)).2
  have hout : ∀ c b q h d, outArr m c (ix4 b q h d)
      = attend (m' (((0 : Dev ReferenceIdeal.nD).tc : Thread ReferenceIdeal.nD ReferenceIdeal.τ).loc ReferenceIdeal.main_arg0))
          (m' (((0 : Dev ReferenceIdeal.nD).tc : Thread ReferenceIdeal.nD ReferenceIdeal.τ).loc ReferenceIdeal.main_arg1))
          (m' (((0 : Dev ReferenceIdeal.nD).tc : Thread ReferenceIdeal.nD ReferenceIdeal.τ).loc ReferenceIdeal.main_arg2)) b q h d := fun c b q h d => by
    have bl := fun (c₀ c₁ : Dev nD) (h₀ : c₀.val / 8 = 0) (h₁ : c₁.val / 8 = 1) =>
      blend_attend m _ _ _ hQ hK c₀ c₁ (fun c => (hblk c).1)
        (fun b k h x => (congrFun (hblk c₀).2.1 _).trans (half_lo h₀ _ b k h x))
        (fun b k h x => (congrFun (hblk c₁).2.1 _).trans (half_hi h₁ _ b k h x))
        (fun b k h x => (congrFun (hblk c₀).2.2 _).trans (half_lo h₀ _ b k h x))
        (fun b k h x => (congrFun (hblk c₁).2.2 _).trans (half_hi h₁ _ b k h x)) b q h d
    rw [out_blend m hQ hK]
    rcases half_cases c with ⟨h₀, h₁⟩ | ⟨h₁, h₀⟩
    · exact bl _ _ h₀ h₁
    · rw [Blend.blend_comm]
      exact bl _ _ h₀ h₁
  refine ⟨outArr m 0, ?_, ?_⟩
  · refine (θ_run Cert.KernelIdeal.defs _ _).mono (fun r h c => ⟨(h.1 c).2.2.2.trans (funext fun x => ?_), (h.1 c).1, (h.1 c).2.1, (h.1 c).2.2.1⟩)
      (run_value (F := Ideal) m g)
    rw [eq_ix4 x]
    exact (hout c _ _ _ _).trans (hout 0 _ _ _ _).symm
  · refine (θ_run Cert.ReferenceIdeal.defs _ _).mono (fun r h => ⟨funext fun x => ?_, (h 0).2⟩) (run_attend m' g')
    rw [eq_ix4 x]
    exact ((h 0).1 _ _ _ _).trans (hout 0 _ _ _ _).symm

end Cert.Proof

end
-- ==== Proof.lean ====
module

public import proofs.«01_k».proof.Defs
public import proofs.«01_k».proof.Proof.Frames
public import proofs.«01_k».proof.Proof.Finite
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Finite.preKernel, Cert.Finite.preReference,
    frame_p, frame_pi, frame_pi_pre, frame_ri, frame_ri_pre, preserves, algebraic⟩

end Cert.Proof

end
